-- ==== Defs.lean ====
def Pre_Kernel [hPre_sizes_count : Cert.Pre_sizes_count.Facts] (m : (ℓ : Loc Cert.Kernel.nD Cert.Kernel.τ Cert.Kernel.sig) → Buf (Elt Bits) ℓ) : Prop :=
  ∀ c : Dev Cert.Kernel.nD,
    (Cert.Pre_sizes_count.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sizes_count : Cert.Pre_sizes_count.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_count.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_count [hPre_sizes_count : Cert.Pre_sizes_count.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_count.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_sizes_count : Cert.Pre_sizes_count.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sizes_count : Cert.Pre_sizes_count.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sizes_count [hReferenceIdeal : Cert.ReferenceIdeal.Facts] [hPre_sizes_count : Cert.Pre_sizes_count.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_count m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_count : Cert.Pre_sizes_count.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sizes_count : Cert.Pre_sizes_count.Facts),
    quiescent_Kernel (hKernel := hKernel) (hPre_sizes_count := hPre_sizes_count)
    ∧ quiescent_KernelIdeal (hKernelIdeal := hKernelIdeal) (hPre_sizes_count := hPre_sizes_count)
    ∧ quiescent_ReferenceIdeal (hReferenceIdeal := hReferenceIdeal)
    ∧ quiescent_ReferenceIdeal_pre_sizes_count (hReferenceIdeal := hReferenceIdeal) (hPre_sizes_count := hPre_sizes_count)
    ∧ preserves_Kernel_KernelIdeal
    ∧ algebraic_KernelIdeal_ReferenceIdeal (hKernelIdeal := hKernelIdeal) (hReferenceIdeal := hReferenceIdeal) (hPre_sizes_count := hPre_sizes_count)
-- ==== Pre_sizes_count.lean ====
abbrev S8192x2048 : Shape := ⟨2, ![8192, 2048]⟩
abbrev S8192x1 : Shape := ⟨2, ![8192, 1]⟩
abbrev S8 : Shape := ⟨1, ![8]⟩
abbrev S8x2048x1536 : Shape := ⟨3, ![8, 2048, 1536]⟩
abbrev S8x1536 : Shape := ⟨2, ![8, 1536]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S8192x2048 .fp8e4m3) (main_arg1 : FVec F S8192x1 .f32) (main_arg2 : IVec S8 32) (main_arg3 : FVec F S8x2048x1536 .fp8e4m3) (main_arg4 : FVec F S8x1536 .f32) : IVec S_ 1 :=
  let main_c : IVec S_ 32 := constantI S_ 32 0#32
  let main_v0 : IVec S8 32 := broadcastInDim S8 ![] bcast_S_S8 main_c
  let main_v1 : IVec S8 1 := cmpi .sge main_arg2 main_v0
  let main_c_0 : IVec S_ 32 := constantI S_ 32 268435455#32
  let main_v2 : IVec S8 32 := broadcastInDim S8 ![] bcast_S_S8 main_c_0
  let main_v3 : IVec S8 1 := cmpi .sle main_arg2 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  main_v5
-- ==== Kernel.lean ====
abbrev S8192x2048 : Shape := ⟨2, ![8192, 2048]⟩
abbrev S8192x1 : Shape := ⟨2, ![8192, 1]⟩
abbrev S8 : Shape := ⟨1, ![8]⟩
abbrev S8x2048x1536 : Shape := ⟨3, ![8, 2048, 1536]⟩
abbrev S8x1536 : Shape := ⟨2, ![8, 1536]⟩
abbrev S_ : Shape := ⟨0, ![]⟩
abbrev S1 : Shape := ⟨1, ![1]⟩
abbrev S10 : Shape := ⟨1, ![10]⟩
abbrev S9 : Shape := ⟨1, ![9]⟩
abbrev S24 : Shape := ⟨1, ![24]⟩
abbrev S1x24 : Shape := ⟨2, ![1, 24]⟩
abbrev S9x1 : Shape := ⟨2, ![9, 1]⟩
abbrev S9x24 : Shape := ⟨2, ![9, 24]⟩
abbrev S24x1 : Shape := ⟨2, ![24, 1]⟩
abbrev S8x1x1536 : Shape := ⟨3, ![8, 1, 1536]⟩
abbrev S8192x1536 : Shape := ⟨2, ![8192, 1536]⟩
abbrev S512x2048 : Shape := ⟨2, ![512, 2048]⟩
abbrev S512x1 : Shape := ⟨2, ![512, 1]⟩
abbrev S1x2048x1536 : Shape := ⟨3, ![1, 2048, 1536]⟩
abbrev S1x1x1536 : Shape := ⟨3, ![1, 1, 1536]⟩
abbrev S512x1536 : Shape := ⟨2, ![512, 1536]⟩
abbrev S2048x1536 : Shape := ⟨2, ![2048, 1536]⟩
abbrev S1x1536 : Shape := ⟨2, ![1, 1536]⟩

abbrev nBuf : Space → Nat
  | .hbm => 117
  | .vmem => 10
  | .smem => 4
  | _ => 0

abbrev bufTy : (tb : Table) → Fin (tcTables nBuf tb) → BufTy
  | .hbm, ⟨0, _⟩ => ⟨S8192x2048, .fp8e4m3⟩
  | .hbm, ⟨1, _⟩ => ⟨S8192x1, .f32⟩
  | .hbm, ⟨2, _⟩ => ⟨S8, .i32⟩
  | .hbm, ⟨3, _⟩ => ⟨S8x2048x1536, .fp8e4m3⟩
  | .hbm, ⟨4, _⟩ => ⟨S8x1536, .f32⟩
  | .hbm, ⟨5, _⟩ => ⟨S_, .i32⟩
  | .hbm, ⟨6, _⟩ => ⟨S_, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S9, .i32⟩
  | .hbm, ⟨16, _⟩ => ⟨S9, .i32⟩
  | .hbm, ⟨17, _⟩ => ⟨S_, .i32⟩
  | .hbm, ⟨18, _⟩ => ⟨S_, .i32⟩
  | .hbm, ⟨19, _⟩ => ⟨S9, .i32⟩
  | .hbm, ⟨20, _⟩ => ⟨S9, .i32⟩
  | .hbm, ⟨21, _⟩ => ⟨S9, .i32⟩
  | .hbm, ⟨22, _⟩ => ⟨S_, .i32⟩
  | .hbm, ⟨23, _⟩ => ⟨S9, .i32⟩
  | .hbm, ⟨24, _⟩ => ⟨S9, .i1⟩
  | .hbm, ⟨25, _⟩ => ⟨S9, .i32⟩
  | .hbm, ⟨26, _⟩ => ⟨S9, .i32⟩
  | .hbm, ⟨27, _⟩ => ⟨S_, .i32⟩
  | .hbm, ⟨28, _⟩ => ⟨S9, .i32⟩
  | .hbm, ⟨29, _⟩ => ⟨S9, .i1⟩
  | .hbm, ⟨30, _⟩ => ⟨S9, .i1⟩
  | .hbm, ⟨31, _⟩ => ⟨S_, .i32⟩
  | .hbm, ⟨32, _⟩ => ⟨S9, .i32⟩
  | .hbm, ⟨33, _⟩ => ⟨S9, .i32⟩
  | .hbm, ⟨34, _⟩ => ⟨S9, .i32⟩
  | .hbm, ⟨35, _⟩ => ⟨S9, .i1⟩
  | .hbm, ⟨36, _⟩ => ⟨S_, .i32⟩
  | .hbm, ⟨37, _⟩ => ⟨S9, .i32⟩
  | .hbm, ⟨38, _⟩ => ⟨S9, .i32⟩
  | .hbm, ⟨39, _⟩ => ⟨S_, .i32⟩
  | .hbm, ⟨40, _⟩ => ⟨S_, .i32⟩
  | .hbm, ⟨41, _⟩ => ⟨S9, .i32⟩
  | .hbm, ⟨42, _⟩ => ⟨S9, .i32⟩
  | .hbm, ⟨43, _⟩ => ⟨S9, .i32⟩
  | .hbm, ⟨44, _⟩ => ⟨S_, .i32⟩
  | .hbm, ⟨45, _⟩ => ⟨S9, .i32⟩
  | .hbm, ⟨46, _⟩ => ⟨S9, .i1⟩
  | .hbm, ⟨47, _⟩ => ⟨S9, .i32⟩
  | .hbm, ⟨48, _⟩ => ⟨S9, .i32⟩
  | .hbm, ⟨49, _⟩ => ⟨S_, .i32⟩
  | .hbm, ⟨50, _⟩ => ⟨S9, .i32⟩
  | .hbm, ⟨51, _⟩ => ⟨S9, .i1⟩
  | .hbm, ⟨52, _⟩ => ⟨S9, .i1⟩
  | .hbm, ⟨53, _⟩ => ⟨S_, .i32⟩
  | .hbm, ⟨54, _⟩ => ⟨S9, .i32⟩
  | .hbm, ⟨55, _⟩ => ⟨S9, .i32⟩
  | .hbm, ⟨56, _⟩ => ⟨S9, .i32⟩
  | .hbm, ⟨57, _⟩ => ⟨S9, .i32⟩
  | .hbm, ⟨58, _⟩ => ⟨S_, .i32⟩
  | .hbm, ⟨59, _⟩ => ⟨S9, .i32⟩
  | .hbm, ⟨60, _⟩ => ⟨S9, .i32⟩
  | .hbm, ⟨61, _⟩ => ⟨S_, .i32⟩
  | .hbm, ⟨62, _⟩ => ⟨S_, .i32⟩
  | .hbm, ⟨63, _⟩ => ⟨S9, .i32⟩
  | .hbm, ⟨64, _⟩ => ⟨S9, .i32⟩
  | .hbm, ⟨65, _⟩ => ⟨S_, .i32⟩
  | .hbm, ⟨66, _⟩ => ⟨S_, .i32⟩
  | .hbm, ⟨67, _⟩ => ⟨S9, .i32⟩
  | .hbm, ⟨68, _⟩ => ⟨S24, .i32⟩
  | .hbm, ⟨69, _⟩ => ⟨S1, .i32⟩
  | .hbm, ⟨70, _⟩ => ⟨S_, .i32⟩
  | .hbm, ⟨71, _⟩ => ⟨S24, .i32⟩
  | .hbm, ⟨72, _⟩ => ⟨S24, .i1⟩
  | .hbm, ⟨73, _⟩ => ⟨S1, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S24, .i32⟩
  | .hbm, ⟨78, _⟩ => ⟨S24, .i32⟩
  | .hbm, ⟨79, _⟩ => ⟨S1x24, .i32⟩
  | .hbm, ⟨80, _⟩ => ⟨S9x1, .i32⟩
  | .hbm, ⟨81, _⟩ => ⟨S9x24, .i32⟩
  | .hbm, ⟨82, _⟩ => ⟨S9x24, .i32⟩
  | .hbm, ⟨83, _⟩ => ⟨S9x24, .i1⟩
  | .hbm, ⟨84, _⟩ => ⟨S9x24, .i32⟩
  | .hbm, ⟨85, _⟩ => ⟨S_, .i32⟩
  | .hbm, ⟨86, _⟩ => ⟨S_, .i32⟩
  | .hbm, ⟨87, _⟩ => ⟨S24, .i32⟩
  | .hbm, ⟨88, _⟩ => ⟨S24, .i1⟩
  | .hbm, ⟨89, _⟩ => ⟨S_, .i32⟩
  | .hbm, ⟨90, _⟩ => ⟨S24, .i32⟩
  | .hbm, ⟨91, _⟩ => ⟨S24, .i32⟩
  | .hbm, ⟨92, _⟩ => ⟨S24, .i32⟩
  | .hbm, ⟨93, _⟩ => ⟨S24x1, .i32⟩
  | .hbm, ⟨94, _⟩ => ⟨S24, .i32⟩
  | .hbm, ⟨95, _⟩ => ⟨S24, .i32⟩
  | .hbm, ⟨96, _⟩ => ⟨S_, .i32⟩
  | .hbm, ⟨97, _⟩ => ⟨S24, .i32⟩
  | .hbm, ⟨98, _⟩ => ⟨S24, .i1⟩
  | .hbm, ⟨99, _⟩ => ⟨S_, .i32⟩
  | .hbm, ⟨100, _⟩ => ⟨S24, .i32⟩
  | .hbm, ⟨101, _⟩ => ⟨S24, .i32⟩
  | .hbm, ⟨102, _⟩ => ⟨S24, .i32⟩
  | .hbm, ⟨103, _⟩ => ⟨S24x1, .i32⟩
  | .hbm, ⟨104, _⟩ => ⟨S24, .i32⟩
  | .hbm, ⟨105, _⟩ => ⟨S_, .i32⟩
  | .hbm, ⟨106, _⟩ => ⟨S24, .i32⟩
  | .hbm, ⟨107, _⟩ => ⟨S24, .i1⟩
  | .hbm, ⟨108, _⟩ => ⟨S_, .i32⟩
  | .hbm, ⟨109, _⟩ => ⟨S24, .i32⟩
  | .hbm, ⟨110, _⟩ => ⟨S24, .i32⟩
  | .hbm, ⟨111, _⟩ => ⟨S24, .i32⟩
  | .hbm, ⟨112, _⟩ => ⟨S24x1, .i32⟩
  | .hbm, ⟨113, _⟩ => ⟨S24, .i32⟩
  | .hbm, ⟨114, _⟩ => ⟨S24, .i32⟩
  | .hbm, ⟨115, _⟩ => ⟨S8x1x1536, .f32⟩
  | .hbm, ⟨116, _⟩ => ⟨S8192x1536, .bf16⟩
  | .local _ .vmem, ⟨0, _⟩ => ⟨S512x2048, .fp8e4m3⟩
  | .local _ .vmem, ⟨1, _⟩ => ⟨S512x2048, .fp8e4m3⟩
  | .local _ .vmem, ⟨2, _⟩ => ⟨S512x1, .f32⟩
  | .local _ .vmem, ⟨3, _⟩ => ⟨S512x1, .f32⟩
  | .local _ .vmem, ⟨4, _⟩ => ⟨S1x2048x1536, .fp8e4m3⟩
  | .local _ .vmem, ⟨5, _⟩ => ⟨S1x2048x1536, .fp8e4m3⟩
  | .local _ .vmem, ⟨6, _⟩ => ⟨S1x1x1536, .f32⟩
  | .local _ .vmem, ⟨7, _⟩ => ⟨S1x1x1536, .f32⟩
  | .local _ .vmem, ⟨8, _⟩ => ⟨S512x1536, .bf16⟩
  | .local _ .vmem, ⟨9, _⟩ => ⟨S512x1536, .bf16⟩
  | .local _ .smem, ⟨0, _⟩ => ⟨S24, .i32⟩
  | .local _ .smem, ⟨1, _⟩ => ⟨S24, .i32⟩
  | .local _ .smem, ⟨2, _⟩ => ⟨S24, .i32⟩
  | .local _ .smem, ⟨3, _⟩ => ⟨S10, .i32⟩
  | _, _ => ⟨S8192x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_c : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_0 : Ref sig .tc := ⟨.hbm, 31, rfl⟩
abbrev main_call1_v12 : Ref sig .tc := ⟨.hbm, 32, rfl⟩
abbrev main_call1_v13 : Ref sig .tc := ⟨.hbm, 33, rfl⟩
abbrev main_v8 : Ref sig .tc := ⟨.hbm, 34, rfl⟩
abbrev main_v9 : Ref sig .tc := ⟨.hbm, 35, rfl⟩
abbrev main_c_3 : Ref sig .tc := ⟨.hbm, 36, rfl⟩
abbrev main_v10 : Ref sig .tc := ⟨.hbm, 37, rfl⟩
abbrev main_v11 : Ref sig .tc := ⟨.hbm, 38, rfl⟩
abbrev main_c_4 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_c : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_0 : Ref sig .tc := ⟨.hbm, 53, rfl⟩
abbrev main_call2_v12 : Ref sig .tc := ⟨.hbm, 54, rfl⟩
abbrev main_call2_v13 : Ref sig .tc := ⟨.hbm, 55, rfl⟩
abbrev main_v12 : Ref sig .tc := ⟨.hbm, 56, rfl⟩
abbrev main_v13 : Ref sig .tc := ⟨.hbm, 57, rfl⟩
abbrev main_c_5 : Ref sig .tc := ⟨.hbm, 58, rfl⟩
abbrev main_v14 : Ref sig .tc := ⟨.hbm, 59, rfl⟩
abbrev main_v15 : Ref sig .tc := ⟨.hbm, 60, rfl⟩
abbrev main_c_6 : Ref sig .tc := ⟨.hbm, 61, rfl⟩
abbrev main_call3_v0 : Ref sig .tc := ⟨.hbm, 62, rfl⟩
abbrev main_call3_v1 : Ref sig .tc := ⟨.hbm, 63, rfl⟩
abbrev main_v16 : Ref sig .tc := ⟨.hbm, 64, rfl⟩
abbrev main_call4_call0_c : Ref sig .tc := ⟨.hbm, 65, rfl⟩
abbrev main_call4_call0_v0 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v24 : Ref sig .tc := ⟨.hbm, 73, rfl⟩
abbrev main_v25 : Ref sig .tc := ⟨.hbm, 74, rfl⟩
abbrev main_c_7 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_call5_call0_v0 : Ref sig .tc := ⟨.hbm, 79, rfl⟩
abbrev main_call5_call0_v1 : Ref sig .tc := ⟨.hbm, 80, rfl⟩
abbrev main_call5_call0_v2 : Ref sig .tc := ⟨.hbm, 81, rfl⟩
abbrev main_call5_call0_v3 : Ref sig .tc := ⟨.hbm, 82, rfl⟩
abbrev main_call5_call0_v4 : Ref sig .tc := ⟨.hbm, 83, rfl⟩
abbrev main_call5_call0_v5 : Ref sig .tc := ⟨.hbm, 84, rfl⟩
abbrev main_call5_call0_c : Ref sig .tc := ⟨.hbm, 85, rfl⟩
abbrev main_c_8 : Ref sig .tc := ⟨.hbm, 86, rfl⟩
abbrev main_v30 : Ref sig .tc := ⟨.hbm, 87, rfl⟩
abbrev main_v31 : Ref sig .tc := ⟨.hbm, 88, rfl⟩
abbrev main_c_9 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_c_10 : Ref sig .tc := ⟨.hbm, 96, rfl⟩
abbrev main_v38 : Ref sig .tc := ⟨.hbm, 97, rfl⟩
abbrev main_v39 : Ref sig .tc := ⟨.hbm, 98, rfl⟩
abbrev main_c_11 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_c_12 : Ref sig .tc := ⟨.hbm, 105, rfl⟩
abbrev main_v45 : Ref sig .tc := ⟨.hbm, 106, rfl⟩
abbrev main_v46 : Ref sig .tc := ⟨.hbm, 107, rfl⟩
abbrev main_c_13 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v54 : Ref sig .tc := ⟨.hbm, 115, rfl⟩
abbrev main_v55 : Ref sig .tc := ⟨.hbm, 116, rfl⟩
abbrev main_v53 : Ref sig .tc := ⟨.smem, 0, rfl⟩
abbrev main_v29 : Ref sig .tc := ⟨.smem, 1, rfl⟩
abbrev main_v23 : Ref sig .tc := ⟨.smem, 2, rfl⟩
abbrev main_v5 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![24], ![false]⟩

abbrev pre0 : Pipeline.Prefetch sig := ⟨4, ![main_v53.idx, main_v29.idx, main_v23.idx, main_v5.idx], fun | 0 => main_v53.names | 1 => main_v29.names | 2 => main_v23.names | 3 => main_v5.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (v6 : BitVec 32) : Fin 1 → Nat :=
  let v13 : Index := Scalar.indexCast v6
  ![v13.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_off4 (v6 : BitVec 32) : Fin 1 → Nat :=
  let c1_i32_0 : BitVec 32 := 1#32
  let v17 : BitVec 32 := Scalar.addi v6 c1_i32_0
  let v18 : Index := Scalar.indexCast v17
  ![v18.toNat]

def k0_chk1 (v1 : BitVec 32) (v6 : BitVec 32) : Prop :=
  (∀ (k0_h1 : k0_cond1 v1 = 1#1), ∀ a, (k0_off3 v6) a + S1.size a ≤ S10.size a) ∧
  (∀ (k0_h1 : k0_cond1 v1 = 1#1), ∀ a, (k0_off4 v6) a + S1.size a ≤ S10.size a)
theorem k0_off3_inb : ∀ (v1 : BitVec 32) (v6 : BitVec 32) (k0_hw1 : k0_chk1 v1 v6), ∀ (k0_h1 : k0_cond1 v1 = 1#1), ∀ a, (k0_off3 v6) a + S1.size a ≤ S10.size a := fun v1 v6 k0_hw1 k0_h1 => k0_hw1.1 k0_h1
theorem k0_off4_inb : ∀ (v1 : BitVec 32) (v6 : BitVec 32) (k0_hw1 : k0_chk1 v1 v6), ∀ (k0_h1 : k0_cond1 v1 = 1#1), ∀ a, (k0_off4 v6) a + S1.size a ≤ S10.size a := fun v1 v6 k0_hw1 k0_h1 => k0_hw1.2 k0_h1

def cc0_transform_0 (k0_off1_inb : ∀ i : grid0.Coords, ∀ a, (k0_off1 i) a + S1.size a ≤ S24.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S24) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S24.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S24) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S24) ![v0.toNat] S1.size (k0_off1_inb i)) numel1_S1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S24) ![v0.toNat] S1.size (k0_off1_inb i)) numel1_S1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc0_transform_4 (k0_off1_inb : ∀ i : grid0.Coords, ∀ a, (k0_off1 i) a + S1.size a ≤ S24.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S24) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8192x2048 : Shape := ⟨2, ![8192, 2048]⟩
abbrev S8192x1 : Shape := ⟨2, ![8192, 1]⟩
abbrev S8 : Shape := ⟨1, ![8]⟩
abbrev S8x2048x1536 : Shape := ⟨3, ![8, 2048, 1536]⟩
abbrev S8x1536 : Shape := ⟨2, ![8, 1536]⟩
abbrev S8192x1536 : Shape := ⟨2, ![8192, 1536]⟩
abbrev S1 : Shape := ⟨1, ![1]⟩
abbrev S1x2048x1536 : Shape := ⟨3, ![1, 2048, 1536]⟩
abbrev S2048x1536 : Shape := ⟨2, ![2048, 1536]⟩
abbrev S1x1536 : Shape := ⟨2, ![1, 1536]⟩

abbrev nBuf : Space → Nat
  | .hbm => 6
  | .vmem => 5
  | .smem => 1
  | _ => 0

abbrev bufTy : (tb : Table) → Fin (tcTables nBuf tb) → BufTy
  | .hbm, ⟨0, _⟩ => ⟨S8192x2048, .fp8e4m3⟩
  | .hbm, ⟨1, _⟩ => ⟨S8192x1, .f32⟩
  | .hbm, ⟨2, _⟩ => ⟨S8, .i32⟩
  | .hbm, ⟨3, _⟩ => ⟨S8x2048x1536, .fp8e4m3⟩
  | .hbm, ⟨4, _⟩ => ⟨S8x1536, .f32⟩
  | .hbm, ⟨5, _⟩ => ⟨S8192x1536, .bf16⟩
  | .local _ .vmem, ⟨0, _⟩ => ⟨S8192x2048, .fp8e4m3⟩
  | .local _ .vmem, ⟨1, _⟩ => ⟨S8192x1, .f32⟩
  | .local _ .vmem, ⟨2, _⟩ => ⟨S8x2048x1536, .fp8e4m3⟩
  | .local _ .vmem, ⟨3, _⟩ => ⟨S8x1536, .f32⟩
  | .local _ .vmem, ⟨4, _⟩ => ⟨S8192x1536, .bf16⟩
  | .local _ .smem, ⟨0, _⟩ => ⟨S8, .i32⟩
  | _, _ => ⟨S8192x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Stages.lean ====
/-
  The host's computation of the schedule, stage by stage: what each line of operations leaves in the buffers that later
  lines or the kernel read, over the contents before the line, and what it leaves alone.
-/
module

public import proofs.«01_k».proof.Proof.Gen.KernelIdeal.Launch
public import Idealize.ShloMosaic.Lib.Routing.OpsSet
public import Idealize.ShloMosaic.Lib.Routing.Words
public import Idealize.ShloMosaic.Lib.StableHlo.ReadAt
public import Idealize.ShloMosaic.Lib.StableHlo.Predicate

@[expose] public section

noncomputable section

namespace Cert.KernelIdeal.Stages

open Idealize.ShloMosaic Idealize.ShloMosaic.TcCoe Cert.KernelIdeal.Gen Cert.KernelIdeal
open Idealize.ShloMosaic.Routing (shape0 shape1 shape2 pyDiv)

variable {F : FTy → Type} [FloatOps F] (W : Idealize.ShloMosaic.Valuation τ sig (Elt F))

open Facts
attribute [local instance] Cert.KernelIdeal.Gen.facts

theorem v0_eq : (StableHlo.after (hostOps0 (F := F)) W main_v0 : IVec S8 32)
    = Host.reduceWindow IntOp.addi ![8] ![1] ![7] ![0] (W main_arg2 : IVec S8 32) (broadcastInDim S_ ![] bcast_S_S_ (constantI S_ 32 0#32)) reduceWindows_S8_S8_w8s1p7_0 h_S_ := by
  after_reads_simp
  simp -implicitDefEqProofs only [StableHlo.TRef.toBuf, StableHlo.TRef.ofBuf, cast_cast, cast_eq]

/-- The offsets' concatenation. -/
abbrev offsOf (v0 : IVec S8 32) : IVec S10 32 :=
  concatenate S10 0 [⟨S1, (broadcastInDim S1 ![] bcast_S_S1 (constantI S_ 32 0#32) : IVec S1 32)⟩, ⟨S8, (minsi v0 (broadcastInDim S8 ![] bcast_S_S8 (constantI S_ 32 8192#32) : IVec S8 32) : IVec S8 32)⟩, ⟨S1, (broadcastInDim S1 ![] bcast_S_S1 (constantI S_ 32 8192#32) : IVec S1 32)⟩] concatenates_S1_S8_S1_S10_d0

theorem v5_eq : (StableHlo.after (hostOps0_1 (F := F)) W main_v5 : IVec S10 32) = offsOf (W main_v0 : IVec S8 32) := by
  after_results
  rfl

theorem v6_eq : (StableHlo.after (hostOps0_1 (F := F)) W main_v6 : IVec S9 32) = extractStridedSlice S9 ![0] (offsOf (W main_v0 : IVec S8 32)) slices_S10_S9_0 := by
  after_results
  rfl

theorem v7_eq : (StableHlo.after (hostOps0_1 (F := F)) W main_v7 : IVec S9 32) = extractStridedSlice S9 ![1] (offsOf (W main_v0 : IVec S8 32)) slices_S10_S9_1 := by
  after_results
  rfl

theorem c2_eq : (StableHlo.after (hostOps0_1 (F := F)) W main_c_2 : IVec S_ 32)
    = constantI S_ 32 512#32 := by
  after_reads_simp

theorem v8_eq : (StableHlo.after (hostOps0_2 (F := F)) W main_v8 : IVec S9 32)
    = pyDiv bcast_S_S9 (W main_v6 : IVec S9 32) (W main_c_2 : IVec S_ 32) := by
  after_reads_simp
  simp -implicitDefEqProofs only [StableHlo.TRef.toBuf, StableHlo.TRef.ofBuf, cast_cast, cast_eq]
  rfl

theorem v9_eq : (StableHlo.after (hostOps0_3 (F := F)) W main_v9 : IVec S9 1)
    = cmpi .sgt (W main_v7 : IVec S9 32) (W main_v6 : IVec S9 32) := by
  after_reads_simp

theorem v11_eq : (StableHlo.after (hostOps0_3 (F := F)) W main_v11 : IVec S9 32)
    = subi (W main_v7 : IVec S9 32) (broadcastInDim S9 ![] bcast_S_S9 (constantI S_ 32 1#32) : IVec S9 32) := by
  after_reads_simp

theorem c4_eq : (StableHlo.after (hostOps0_3 (F := F)) W main_c_4 : IVec S_ 32)
    = constantI S_ 32 512#32 := by
  after_reads_simp

theorem v12_eq : (StableHlo.after (hostOps0_4 (F := F)) W main_v12 : IVec S9 32)
    = pyDiv bcast_S_S9 (W main_v11 : IVec S9 32) (W main_c_4 : IVec S_ 32) := by
  after_reads_simp
  simp -implicitDefEqProofs only [StableHlo.TRef.toBuf, StableHlo.TRef.ofBuf, cast_cast, cast_eq]
  rfl

theorem v15_eq : (StableHlo.after (hostOps0_5 (F := F)) W main_v15 : IVec S9 32)
    = addi (subi (W main_v12 : IVec S9 32) (W main_v8 : IVec S9 32)) (broadcastInDim S9 ![] bcast_S_S9 (constantI S_ 32 1#32) : IVec S9 32) := by
  after_reads_simp

theorem c6_eq : (StableHlo.after (hostOps0_5 (F := F)) W main_c_6 : IVec S_ 32)
    = constantI S_ 32 0#32 := by
  after_reads_simp

theorem v16_eq : (StableHlo.after (hostOps0_6 (F := F)) W main_v16 : IVec S9 32)
    = select (W main_v9 : IVec S9 1) (W main_v15 : IVec S9 32) (broadcastInDim S9 ![] bcast_S_S9 (W main_c_6 : IVec S_ 32)) := by
  after_reads_simp
  simp -implicitDefEqProofs only [StableHlo.TRef.toBuf, StableHlo.TRef.ofBuf, cast_cast, cast_eq]
  rfl

theorem v17_eq : (StableHlo.after (hostOps0_7 (F := F)) W main_v17 : IVec S9 32)
    = Host.reduceWindow IntOp.addi ![9] ![1] ![8] ![0] (W main_v16 : IVec S9 32) (broadcastInDim S_ ![] bcast_S_S_ (constantI S_ 32 0#32)) reduceWindows_S9_S9_w9s1p8_0 h_S_ := by
  after_reads_simp
  simp -implicitDefEqProofs only [StableHlo.TRef.toBuf, StableHlo.TRef.ofBuf, cast_cast, cast_eq]

theorem v23_eq : (StableHlo.after (hostOps0_8 (F := F)) W main_v23 : IVec S24 32)
    = extui 32 (cmpi .slt (iotaInDim S24 32 0) (broadcastInDim S24 ![] bcast_S_S24 (shapeCast S_ (extractStridedSlice S1 ![8] (W main_v17 : IVec S9 32) slices_S9_S1_8) shapeCasts_S1_S_ : IVec S_ 32)) : IVec S24 1) natLt_1_32 := by
  after_reads_simp
  rfl

theorem v28_eq : (StableHlo.after (hostOps0_8 (F := F)) W main_v28 : IVec S24 32)
    = minsi (iotaInDim S24 32 0) (broadcastInDim S24 ![] bcast_S_S24 (subi (shapeCast S_ (extractStridedSlice S1 ![8] (W main_v17 : IVec S9 32) slices_S9_S1_8) shapeCasts_S1_S_ : IVec S_ 32) (constantI S_ 32 1#32))) := by
  after_reads_simp
  rfl

theorem v29_eq : (StableHlo.after (hostOps0_9 (F := F)) W main_v29 : IVec S24 32)
    = Host.reduce IntOp.addi (extui 32 (cmpi .sle (broadcastInDim S9x24 ![0, 1] bcast_S9x1_S9x24_0_1 (broadcastInDim S9x1 ![0] bcast_S9_S9x1_0 (W main_v17 : IVec S9 32))) (broadcastInDim S9x24 ![0, 1] bcast_S1x24_S9x24_0_1 (broadcastInDim S1x24 ![1] bcast_S24_S1x24_1 (W main_v28 : IVec S24 32))) : IVec S9x24 1) natLt_1_32) (constantI S_ 32 0#32) reducesTo_S9x24_S24_d0 h_S_ := by
  after_reads_simp
  simp -implicitDefEqProofs only [StableHlo.TRef.toBuf, StableHlo.TRef.ofBuf, cast_cast, cast_eq]

/-- An index word as the gather takes it: a negative one counted from the end, then as a column. -/
abbrev idxCol (g : IVec S24 32) : IVec S24x1 32 :=
  broadcastInDim S24x1 ![0] bcast_S24_S24x1_0 (select (cmpi .slt g (broadcastInDim S24 ![] bcast_S_S24 (constantI S_ 32 0#32))) (addi g (broadcastInDim S24 ![] bcast_S_S24 (constantI S_ 32 9#32))) g)

/-- The take of a nine-entry vector at the groups. -/
abbrev takeOf (x : IVec S9 32) (g : IVec S24 32) : IVec S24 32 := Host.gather gather_S9_S24x1_S24_n_0_n_n_0_1_1 x (idxCol g)

theorem v53_eq : (StableHlo.after (hostOps0_10 (F := F)) W main_v53 : IVec S24 32)
    = subi (addi (takeOf (W main_v8 : IVec S9 32) (W main_v29 : IVec S24 32)) (W main_v28 : IVec S24 32)) (subi (takeOf (W main_v17 : IVec S9 32) (W main_v29 : IVec S24 32)) (takeOf (W main_v16 : IVec S9 32) (W main_v29 : IVec S24 32))) := by
  after_reads_simp

theorem v54_eq : (StableHlo.after (hostOps0_10 (F := F)) W main_v54 : FVec F S8x1x1536 .f32) = shapeCast S8x1x1536 (W main_arg4 : FVec F S8x1536 .f32) shapeCasts_S8x1536_S8x1x1536 := by
  after_reads_simp
  rfl

/-! ## What each stretch leaves alone -/

theorem keep0_main_arg0 : StableHlo.after (hostOps0 (F := F)) W main_arg0 = W main_arg0 := by after_reads_simp

theorem keep0_main_arg1 : StableHlo.after (hostOps0 (F := F)) W main_arg1 = W main_arg1 := by after_reads_simp

theorem keep0_main_arg2 : StableHlo.after (hostOps0 (F := F)) W main_arg2 = W main_arg2 := by after_reads_simp

theorem keep0_main_arg3 : StableHlo.after (hostOps0 (F := F)) W main_arg3 = W main_arg3 := by after_reads_simp

theorem keep0_main_arg4 : StableHlo.after (hostOps0 (F := F)) W main_arg4 = W main_arg4 := by after_reads_simp

theorem keep1_main_arg0 : StableHlo.after (hostOps0_1 (F := F)) W main_arg0 = W main_arg0 := by after_reads_simp

theorem keep1_main_arg1 : StableHlo.after (hostOps0_1 (F := F)) W main_arg1 = W main_arg1 := by after_reads_simp

theorem keep1_main_arg2 : StableHlo.after (hostOps0_1 (F := F)) W main_arg2 = W main_arg2 := by after_reads_simp

theorem keep1_main_arg3 : StableHlo.after (hostOps0_1 (F := F)) W main_arg3 = W main_arg3 := by after_reads_simp

theorem keep1_main_arg4 : StableHlo.after (hostOps0_1 (F := F)) W main_arg4 = W main_arg4 := by after_reads_simp

theorem keep2_main_arg0 : StableHlo.after (hostOps0_2 (F := F)) W main_arg0 = W main_arg0 := by after_reads_simp

theorem keep2_main_arg1 : StableHlo.after (hostOps0_2 (F := F)) W main_arg1 = W main_arg1 := by after_reads_simp

theorem keep2_main_arg2 : StableHlo.after (hostOps0_2 (F := F)) W main_arg2 = W main_arg2 := by after_reads_simp

theorem keep2_main_arg3 : StableHlo.after (hostOps0_2 (F := F)) W main_arg3 = W main_arg3 := by after_reads_simp

theorem keep2_main_arg4 : StableHlo.after (hostOps0_2 (F := F)) W main_arg4 = W main_arg4 := by after_reads_simp

theorem keep2_main_v5 : StableHlo.after (hostOps0_2 (F := F)) W main_v5 = W main_v5 := by after_reads_simp

theorem keep2_main_v6 : StableHlo.after (hostOps0_2 (F := F)) W main_v6 = W main_v6 := by after_reads_simp

theorem keep2_main_v7 : StableHlo.after (hostOps0_2 (F := F)) W main_v7 = W main_v7 := by after_reads_simp

theorem keep3_main_arg0 : StableHlo.after (hostOps0_3 (F := F)) W main_arg0 = W main_arg0 := by after_reads_simp

theorem keep3_main_arg1 : StableHlo.after (hostOps0_3 (F := F)) W main_arg1 = W main_arg1 := by after_reads_simp

theorem keep3_main_arg2 : StableHlo.after (hostOps0_3 (F := F)) W main_arg2 = W main_arg2 := by after_reads_simp

theorem keep3_main_arg3 : StableHlo.after (hostOps0_3 (F := F)) W main_arg3 = W main_arg3 := by after_reads_simp

theorem keep3_main_arg4 : StableHlo.after (hostOps0_3 (F := F)) W main_arg4 = W main_arg4 := by after_reads_simp

theorem keep3_main_v5 : StableHlo.after (hostOps0_3 (F := F)) W main_v5 = W main_v5 := by after_reads_simp

theorem keep3_main_v8 : StableHlo.after (hostOps0_3 (F := F)) W main_v8 = W main_v8 := by after_reads_simp

theorem keep4_main_arg0 : StableHlo.after (hostOps0_4 (F := F)) W main_arg0 = W main_arg0 := by after_reads_simp

theorem keep4_main_arg1 : StableHlo.after (hostOps0_4 (F := F)) W main_arg1 = W main_arg1 := by after_reads_simp

theorem keep4_main_arg2 : StableHlo.after (hostOps0_4 (F := F)) W main_arg2 = W main_arg2 := by after_reads_simp

theorem keep4_main_arg3 : StableHlo.after (hostOps0_4 (F := F)) W main_arg3 = W main_arg3 := by after_reads_simp

theorem keep4_main_arg4 : StableHlo.after (hostOps0_4 (F := F)) W main_arg4 = W main_arg4 := by after_reads_simp

theorem keep4_main_v5 : StableHlo.after (hostOps0_4 (F := F)) W main_v5 = W main_v5 := by after_reads_simp

theorem keep4_main_v8 : StableHlo.after (hostOps0_4 (F := F)) W main_v8 = W main_v8 := by after_reads_simp

theorem keep4_main_v9 : StableHlo.after (hostOps0_4 (F := F)) W main_v9 = W main_v9 := by after_reads_simp

theorem keep5_main_arg0 : StableHlo.after (hostOps0_5 (F := F)) W main_arg0 = W main_arg0 := by after_reads_simp

theorem keep5_main_arg1 : StableHlo.after (hostOps0_5 (F := F)) W main_arg1 = W main_arg1 := by after_reads_simp

theorem keep5_main_arg2 : StableHlo.after (hostOps0_5 (F := F)) W main_arg2 = W main_arg2 := by after_reads_simp

theorem keep5_main_arg3 : StableHlo.after (hostOps0_5 (F := F)) W main_arg3 = W main_arg3 := by after_reads_simp

theorem keep5_main_arg4 : StableHlo.after (hostOps0_5 (F := F)) W main_arg4 = W main_arg4 := by after_reads_simp

theorem keep5_main_v5 : StableHlo.after (hostOps0_5 (F := F)) W main_v5 = W main_v5 := by after_reads_simp

theorem keep5_main_v8 : StableHlo.after (hostOps0_5 (F := F)) W main_v8 = W main_v8 := by after_reads_simp

theorem keep5_main_v9 : StableHlo.after (hostOps0_5 (F := F)) W main_v9 = W main_v9 := by after_reads_simp

theorem keep6_main_arg0 : StableHlo.after (hostOps0_6 (F := F)) W main_arg0 = W main_arg0 := by after_reads_simp

theorem keep6_main_arg1 : StableHlo.after (hostOps0_6 (F := F)) W main_arg1 = W main_arg1 := by after_reads_simp

theorem keep6_main_arg2 : StableHlo.after (hostOps0_6 (F := F)) W main_arg2 = W main_arg2 := by after_reads_simp

theorem keep6_main_arg3 : StableHlo.after (hostOps0_6 (F := F)) W main_arg3 = W main_arg3 := by after_reads_simp

theorem keep6_main_arg4 : StableHlo.after (hostOps0_6 (F := F)) W main_arg4 = W main_arg4 := by after_reads_simp

theorem keep6_main_v5 : StableHlo.after (hostOps0_6 (F := F)) W main_v5 = W main_v5 := by after_reads_simp

theorem keep6_main_v8 : StableHlo.after (hostOps0_6 (F := F)) W main_v8 = W main_v8 := by after_reads_simp

theorem keep7_main_arg0 : StableHlo.after (hostOps0_7 (F := F)) W main_arg0 = W main_arg0 := by after_reads_simp

theorem keep7_main_arg1 : StableHlo.after (hostOps0_7 (F := F)) W main_arg1 = W main_arg1 := by after_reads_simp

theorem keep7_main_arg2 : StableHlo.after (hostOps0_7 (F := F)) W main_arg2 = W main_arg2 := by after_reads_simp

theorem keep7_main_arg3 : StableHlo.after (hostOps0_7 (F := F)) W main_arg3 = W main_arg3 := by after_reads_simp

theorem keep7_main_arg4 : StableHlo.after (hostOps0_7 (F := F)) W main_arg4 = W main_arg4 := by after_reads_simp

theorem keep7_main_v5 : StableHlo.after (hostOps0_7 (F := F)) W main_v5 = W main_v5 := by after_reads_simp

theorem keep7_main_v8 : StableHlo.after (hostOps0_7 (F := F)) W main_v8 = W main_v8 := by after_reads_simp

theorem keep7_main_v16 : StableHlo.after (hostOps0_7 (F := F)) W main_v16 = W main_v16 := by after_reads_simp

theorem keep8_main_arg0 : StableHlo.after (hostOps0_8 (F := F)) W main_arg0 = W main_arg0 := by after_reads_simp

theorem keep8_main_arg1 : StableHlo.after (hostOps0_8 (F := F)) W main_arg1 = W main_arg1 := by after_reads_simp

theorem keep8_main_arg2 : StableHlo.after (hostOps0_8 (F := F)) W main_arg2 = W main_arg2 := by after_reads_simp

theorem keep8_main_arg3 : StableHlo.after (hostOps0_8 (F := F)) W main_arg3 = W main_arg3 := by after_reads_simp

theorem keep8_main_arg4 : StableHlo.after (hostOps0_8 (F := F)) W main_arg4 = W main_arg4 := by after_reads_simp

theorem keep8_main_v5 : StableHlo.after (hostOps0_8 (F := F)) W main_v5 = W main_v5 := by after_reads_simp

theorem keep8_main_v8 : StableHlo.after (hostOps0_8 (F := F)) W main_v8 = W main_v8 := by after_reads_simp

theorem keep8_main_v16 : StableHlo.after (hostOps0_8 (F := F)) W main_v16 = W main_v16 := by after_reads_simp

theorem keep8_main_v17 : StableHlo.after (hostOps0_8 (F := F)) W main_v17 = W main_v17 := by after_reads_simp

theorem keep9_main_arg0 : StableHlo.after (hostOps0_9 (F := F)) W main_arg0 = W main_arg0 := by after_reads_simp

theorem keep9_main_arg1 : StableHlo.after (hostOps0_9 (F := F)) W main_arg1 = W main_arg1 := by after_reads_simp

theorem keep9_main_arg2 : StableHlo.after (hostOps0_9 (F := F)) W main_arg2 = W main_arg2 := by after_reads_simp

theorem keep9_main_arg3 : StableHlo.after (hostOps0_9 (F := F)) W main_arg3 = W main_arg3 := by after_reads_simp

theorem keep9_main_arg4 : StableHlo.after (hostOps0_9 (F := F)) W main_arg4 = W main_arg4 := by after_reads_simp

theorem keep9_main_v5 : StableHlo.after (hostOps0_9 (F := F)) W main_v5 = W main_v5 := by after_reads_simp

theorem keep9_main_v8 : StableHlo.after (hostOps0_9 (F := F)) W main_v8 = W main_v8 := by after_reads_simp

theorem keep9_main_v16 : StableHlo.after (hostOps0_9 (F := F)) W main_v16 = W main_v16 := by after_reads_simp

theorem keep9_main_v17 : StableHlo.after (hostOps0_9 (F := F)) W main_v17 = W main_v17 := by after_reads_simp

theorem keep9_main_v23 : StableHlo.after (hostOps0_9 (F := F)) W main_v23 = W main_v23 := by after_reads_simp

theorem keep9_main_v28 : StableHlo.after (hostOps0_9 (F := F)) W main_v28 = W main_v28 := by after_reads_simp

theorem keep10_main_arg0 : StableHlo.after (hostOps0_10 (F := F)) W main_arg0 = W main_arg0 := by after_reads_simp

theorem keep10_main_arg1 : StableHlo.after (hostOps0_10 (F := F)) W main_arg1 = W main_arg1 := by after_reads_simp

theorem keep10_main_arg2 : StableHlo.after (hostOps0_10 (F := F)) W main_arg2 = W main_arg2 := by after_reads_simp

theorem keep10_main_arg3 : StableHlo.after (hostOps0_10 (F := F)) W main_arg3 = W main_arg3 := by after_reads_simp

theorem keep10_main_arg4 : StableHlo.after (hostOps0_10 (F := F)) W main_arg4 = W main_arg4 := by after_reads_simp

theorem keep10_main_v5 : StableHlo.after (hostOps0_10 (F := F)) W main_v5 = W main_v5 := by after_reads_simp

theorem keep10_main_v23 : StableHlo.after (hostOps0_10 (F := F)) W main_v23 = W main_v23 := by after_reads_simp

theorem keep10_main_v29 : StableHlo.after (hostOps0_10 (F := F)) W main_v29 = W main_v29 := by after_reads_simp

end Cert.KernelIdeal.Stages

end
-- ==== Proof.Sched.lean ====
/-
  The schedule of the grouped product, in natural numbers. `e` are the row offsets of the groups (`e 9` is the number of
  rows, the ninth group being the rows that belong to no expert); `cnt g` is the number of 512-row tiles group `g` meets,
  `cum g` the number met by the groups before it. Grid point `t` works on item `min t (cum 9 - 1)`: the group whose range
  of items holds it, and the tile at that place of the group's own tiles.
-/
module

public import Mathlib.Data.Nat.Basic
public import Mathlib.Algebra.BigOperators.Fin
public import Mathlib.Tactic.IntervalCases

@[expose] public section

namespace Cert.Sched

/-- Offsets: from 0, increasing, ending at the number of rows. -/
structure Offs (e : ℕ → ℕ) : Prop where
  zero : e 0 = 0
  mono : ∀ g, g < 9 → e g ≤ e (g + 1)
  last : e 9 = 8192

/-- How many tiles group `g` meets. -/
def cnt (e : ℕ → ℕ) (g : ℕ) : ℕ := if e g < e (g + 1) then (e (g + 1) - 1) / 512 - e g / 512 + 1 else 0

/-- How many the groups before `g` meet. -/
def cum (e : ℕ → ℕ) : ℕ → ℕ
  | 0 => 0
  | g + 1 => cum e g + cnt e g

/-- Item `k` is tile `T` of group `g`. -/
structure Item (e : ℕ → ℕ) (k g T : ℕ) : Prop where
  g_lt : g < 9
  lo : cum e g ≤ k
  hi : k < cum e (g + 1)
  tile : T = e g / 512 + k - cum e g

variable {e : ℕ → ℕ}

theorem Offs.le (h : Offs e) {a b : ℕ} (hab : a ≤ b) (hb : b ≤ 9) : e a ≤ e b := by
  induction b with
  | zero => have : a = 0 := by omega
            subst this; exact le_rfl
  | succ b ih =>
    rcases Nat.lt_or_ge b a with h1 | h1
    · have : a = b + 1 := by omega
      subst this; exact le_rfl
    · exact (ih h1 (by omega)).trans (h.mono b (by omega))

theorem cum_le {a b : ℕ} (hab : a ≤ b) : cum e a ≤ cum e b := by
  induction b with
  | zero => have : a = 0 := by omega
            subst this; exact le_rfl
  | succ b ih =>
    rcases Nat.lt_or_ge b a with h1 | h1
    · have : a = b + 1 := by omega
      subst this; exact le_rfl
    · exact (ih h1).trans (Nat.le_add_right _ _)

theorem cnt_pos {g : ℕ} (hg : e g < e (g + 1)) : cnt e g = (e (g + 1) - 1) / 512 - e g / 512 + 1 := by
  simp [cnt, hg]

theorem cnt_zero {g : ℕ} (hg : ¬ e g < e (g + 1)) : cnt e g = 0 := by simp [cnt, hg]

/-- At most one item more than the tiles for each group. -/
theorem Offs.cum_upper (h : Offs e) : ∀ g, g < 9 → cum e (g + 1) ≤ (e (g + 1) + 511) / 512 + g := by
  intro g
  induction g with
  | zero =>
    intro _
    have h0 := h.zero
    by_cases hg : e 0 < e (0 + 1)
    · simp only [cum, cnt_pos hg]; omega
    · simp only [cum, cnt_zero hg]; omega
  | succ g ih =>
    intro hlt
    have h1 := ih (by omega)
    have h2 := h.mono (g + 1) hlt
    by_cases hg : e (g + 1) < e (g + 1 + 1)
    · rw [cum, cnt_pos hg]; omega
    · rw [cum, cnt_zero hg]; omega

/-- At least the tiles that hold a row. -/
theorem Offs.cum_lower (h : Offs e) : ∀ g, g ≤ 9 → (e g + 511) / 512 ≤ cum e g := by
  intro g
  induction g with
  | zero => intro _; rw [h.zero]; simp [cum]
  | succ g ih =>
    intro hlt
    have h1 := ih (by omega)
    have h2 := h.mono g (by omega)
    by_cases hg : e g < e (g + 1)
    · rw [cum, cnt_pos hg]; omega
    · rw [cum, cnt_zero hg]; omega

theorem Offs.cum_nine (h : Offs e) : 16 ≤ cum e 9 ∧ cum e 9 ≤ 24 := by
  have h1 := h.cum_upper 8 (by omega)
  have h2 := h.cum_lower 9 le_rfl
  have h3 := h.last
  simp only [Nat.reduceAdd] at h1
  omega

/-- Groups that meet no tile have no rows. -/
theorem Offs.eq_of_cum_eq (h : Offs e) {a b : ℕ} (hab : a ≤ b) (hb : b ≤ 9) (hc : cum e a = cum e b) : e a = e b := by
  induction b with
  | zero => have : a = 0 := by omega
            subst this; rfl
  | succ b ih =>
    rcases Nat.lt_or_ge b a with h1 | h1
    · have : a = b + 1 := by omega
      subst this; rfl
    · have h2 : cum e a ≤ cum e b := cum_le h1
      have h3 : cum e (b + 1) = cum e b + cnt e b := rfl
      have h4 : cnt e b = 0 := by omega
      have h5 := h.mono b (by omega)
      have h6 : e b = e (b + 1) := by
        by_contra hne
        rw [cnt_pos (by omega)] at h4
        omega
      rw [← h6]
      exact ih h1 (by omega) (by omega)

namespace Item

variable {k g T g' T' : ℕ}

theorem nonempty (hi : Item e k g T) : e g < e (g + 1) := by
  by_contra hn
  have h1 := hi.lo
  have h2 := hi.hi
  have h3 : cum e (g + 1) = cum e g + cnt e g := rfl
  rw [cnt_zero hn] at h3
  omega

theorem range (hi : Item e k g T) : e g / 512 ≤ T ∧ T ≤ (e (g + 1) - 1) / 512 := by
  have h0 := hi.nonempty
  have h1 := hi.lo
  have h2 := hi.hi
  have h3 : cum e (g + 1) = cum e g + cnt e g := rfl
  rw [cnt_pos h0] at h3
  have h4 := hi.tile
  omega

theorem tile_lt (h : Offs e) (hi : Item e k g T) : T < 16 := by
  have h1 := hi.range
  have h2 : e (g + 1) ≤ e 9 := h.le (by have := hi.g_lt; omega) le_rfl
  have h3 := h.last
  omega

theorem unique (hi : Item e k g T) (hi' : Item e k g' T') : g = g' ∧ T = T' := by
  have hg : g = g' := by
    rcases Nat.lt_trichotomy g g' with hlt | heq | hlt
    · have h1 : cum e (g + 1) ≤ cum e g' := cum_le hlt
      have h2 := hi.hi
      have h3 := hi'.lo
      omega
    · exact heq
    · have h1 : cum e (g' + 1) ≤ cum e g := cum_le hlt
      have h2 := hi'.hi
      have h3 := hi.lo
      omega
  subst hg
  exact ⟨rfl, hi.tile.trans hi'.tile.symm⟩

/-- The next item: the same group's next tile, or the next group that has rows, from its first. -/
theorem next (h : Offs e) (hi : Item e k g T) (hi' : Item e (k + 1) g' T') :
    (g' = g ∧ T' = T + 1) ∨ (e g' = e (g + 1) ∧ T' = e g' / 512 ∧ T = (e (g + 1) - 1) / 512) := by
  have h0 := hi.nonempty
  have h0' := hi'.nonempty
  have h1 := hi.lo
  have h2 := hi.hi
  have h1' := hi'.lo
  have h2' := hi'.hi
  have h3 : cum e (g + 1) = cum e g + cnt e g := rfl
  rw [cnt_pos h0] at h3
  have h4 := hi.tile
  have h4' := hi'.tile
  have h5 := hi.g_lt
  have h5' := hi'.g_lt
  rcases Nat.lt_trichotomy g g' with hlt | heq | hlt
  · right
    have h6 : cum e (g + 1) ≤ cum e g' := cum_le hlt
    have h7 : e (g + 1) = e g' := h.eq_of_cum_eq hlt (by omega) (by omega)
    have h8 := hi.range
    exact ⟨h7.symm, by omega, by omega⟩
  · left
    subst heq
    exact ⟨rfl, by omega⟩
  · have h6 : cum e (g' + 1) ≤ cum e g := cum_le hlt
    omega

end Item

/-- A schedule: each of the 24 grid points' group and tile are those of its item. -/
structure Sched (e : ℕ → ℕ) (G T : ℕ → ℕ) : Prop where
  offs : Offs e
  item : ∀ t, t < 24 → Item e (min t (cum e 9 - 1)) (G t) (T t)

namespace Sched

variable {G T : ℕ → ℕ}

theorem tile_lt (s : Sched e G T) {t : ℕ} (ht : t < 24) : T t < 16 := (s.item t ht).tile_lt s.offs

theorem group_lt (s : Sched e G T) {t : ℕ} (ht : t < 24) : G t < 9 := (s.item t ht).g_lt

/-- From a point to the next: the same item again, past the last; the same group's next tile; or the next group's
    first. -/
theorem step (s : Sched e G T) {t : ℕ} (ht : t + 1 < 24) :
    (cum e 9 ≤ t + 1 ∧ G (t + 1) = G t ∧ T (t + 1) = T t)
    ∨ (t + 1 < cum e 9 ∧ G (t + 1) = G t ∧ T (t + 1) = T t + 1)
    ∨ (t + 1 < cum e 9 ∧ e (G (t + 1)) = e (G t + 1) ∧ T (t + 1) = e (G (t + 1)) / 512 ∧ T t = (e (G t + 1) - 1) / 512) := by
  have h1 := s.offs.cum_nine
  have i1 := s.item t (by omega)
  have i2 := s.item (t + 1) ht
  rcases Nat.lt_or_ge (t + 1) (cum e 9) with hlt | hge
  · right
    rw [show min t (cum e 9 - 1) = t by omega] at i1
    rw [show min (t + 1) (cum e 9 - 1) = t + 1 by omega] at i2
    rcases i1.next s.offs i2 with ⟨h2, h3⟩ | ⟨h2, h3, h4⟩
    · exact Or.inl ⟨hlt, h2, h3⟩
    · exact Or.inr ⟨hlt, h2, h3, h4⟩
  · left
    rw [show min t (cum e 9 - 1) = cum e 9 - 1 by omega] at i1
    rw [show min (t + 1) (cum e 9 - 1) = cum e 9 - 1 by omega] at i2
    have := i2.unique i1
    exact ⟨hge, this.1, this.2⟩

/-- The first point of a tile's run starts no later than the tile, at a valid point. -/
theorem fresh (s : Sched e G T) {t : ℕ} (ht : t < 24) (hf : t = 0 ∨ T t ≠ T (t - 1)) :
    t < cum e 9 ∧ e (G t) ≤ 512 * T t := by
  have h1 := s.offs.cum_nine
  rcases Nat.eq_zero_or_pos t with h0 | h0
  · subst h0
    have i := s.item 0 (by omega)
    have h2 := i.lo
    have h3 : cum e 0 = 0 := rfl
    have h4 : e 0 = e (G 0) := s.offs.eq_of_cum_eq (Nat.zero_le _) (by have := i.g_lt; omega) (by omega)
    have h5 := s.offs.zero
    exact ⟨by omega, by omega⟩
  · obtain ⟨u, rfl⟩ : ∃ u, t = u + 1 := ⟨t - 1, by omega⟩
    simp only [Nat.add_sub_cancel] at hf
    have hr := (s.item u (by omega)).range
    have hn := (s.item u (by omega)).nonempty
    rcases s.step ht with ⟨_, _, h3⟩ | ⟨h2, h3, h4⟩ | ⟨h2, h3, h4, h5⟩
    · omega
    · refine ⟨h2, ?_⟩
      rw [h3, h4]; omega
    · refine ⟨h2, ?_⟩
      omega

/-- A later point of a tile's run carries on where the one before it stopped, or repeats it. -/
theorem same (s : Sched e G T) {t : ℕ} (ht : t + 1 < 24) (hs : T (t + 1) = T t) :
    e (G (t + 1)) ≤ e (G t + 1) ∧ (t + 1 < cum e 9 ∨ G (t + 1) = G t) := by
  have hn := (s.item t (by omega)).nonempty
  rcases s.step ht with ⟨_, h2, _⟩ | ⟨_, _, h3⟩ | ⟨h2, h3, _, _⟩
  · exact ⟨by rw [h2]; omega, Or.inr h2⟩
  · omega
  · exact ⟨h3.le, Or.inl h2⟩

/-- The last point of a tile's run ends no earlier than the tile. -/
theorem done (s : Sched e G T) {t : ℕ} (ht : t < 24) (hl : t = 23 ∨ T (t + 1) ≠ T t) :
    512 * (T t + 1) ≤ e (G t + 1) := by
  have h1 := s.offs.cum_nine
  have i := s.item t ht
  rcases Nat.lt_or_ge t 23 with h23 | h23
  · have h2 : T (t + 1) ≠ T t := by omega
    have hn := i.nonempty
    have hr := (s.item (t + 1) (by omega)).range
    rcases s.step (t := t) (by omega) with ⟨_, _, h3⟩ | ⟨_, h3, h4⟩ | ⟨_, h3, h4, h5⟩
    · omega
    · rw [h3] at hr; omega
    · omega
  · have h2 := i.hi
    have h3 : e (G t + 1) = e 9 := by
      refine s.offs.eq_of_cum_eq (by have := i.g_lt; omega) le_rfl ?_
      have h4 : cum e (G t + 1) ≤ cum e 9 := cum_le (by have := i.g_lt; omega)
      omega
    have h4 := s.tile_lt ht
    have h5 := s.offs.last
    omega

theorem first (s : Sched e G T) : T 0 = 0 := by
  have h1 := s.offs.cum_nine
  have i := s.item 0 (by omega)
  have h2 := i.lo
  have h3 : cum e 0 = 0 := rfl
  have h4 : e 0 = e (G 0) := s.offs.eq_of_cum_eq (Nat.zero_le _) (by have := i.g_lt; omega) (by omega)
  have h5 := s.offs.zero
  have h6 := i.tile
  rw [h6, ← h4, h5]; omega

theorem last (s : Sched e G T) : T 23 = 15 := by
  have h1 := s.done (t := 23) (by omega) (Or.inl rfl)
  have i := s.item 23 (by omega)
  have h0 := s.offs.cum_nine
  have h2 := i.hi
  have h3 : cum e (G 23 + 1) ≤ cum e 9 := cum_le (by have := i.g_lt; omega)
  have h4 : e (G 23 + 1) = e 9 := s.offs.eq_of_cum_eq (by have := i.g_lt; omega) le_rfl (by omega)
  have h5 := s.offs.last
  have h6 := i.tile
  have h7 := i.nonempty
  have h8 : cum e (G 23 + 1) = cum e (G 23) + cnt e (G 23) := rfl
  rw [cnt_pos h7] at h8
  have h9 := i.lo
  omega

theorem up (s : Sched e G T) {t : ℕ} (ht : t + 1 < 24) : T t ≤ T (t + 1) ∧ T (t + 1) ≤ T t + 1 := by
  have hn := (s.item t (by omega)).nonempty
  rcases s.step ht with ⟨_, _, h3⟩ | ⟨_, _, h3⟩ | ⟨_, h3, h4, h5⟩ <;> omega

/-- Every tile has a last point of its run. -/
theorem cover (s : Sched e G T) {k : ℕ} (hk : k < 16) : ∃ t, t < 24 ∧ T t = k ∧ (t = 23 ∨ T (t + 1) ≠ T t) := by
  have key : ∀ n, n < 24 → k ≤ T n → ∃ t, t < 24 ∧ T t = k := by
    intro n
    induction n with
    | zero => intro _ h; exact ⟨0, by omega, by have := s.first; omega⟩
    | succ n ih =>
      intro hn h
      rcases Nat.lt_or_ge (T n) k with h1 | h1
      · exact ⟨n + 1, hn, by have := s.up hn; omega⟩
      · exact ih (by omega) h1
  have down : ∀ d t, t + d = 23 → T t = k → ∃ t, t < 24 ∧ T t = k ∧ (t = 23 ∨ T (t + 1) ≠ T t) := by
    intro d
    induction d with
    | zero => intro t h1 h2; exact ⟨t, by omega, h2, Or.inl (by omega)⟩
    | succ d ih =>
      intro t h1 h2
      by_cases h3 : T (t + 1) = T t
      · exact ih (t + 1) (by omega) (by omega)
      · exact ⟨t, by omega, h2, Or.inr h3⟩
  obtain ⟨t, h1, h2⟩ := key 23 (by omega) (by have := s.last; omega)
  exact down (23 - t) t (by omega) h2

end Sched

/-- The group of item `k`, counted: how many groups end at or before it. -/
def countLe (e : ℕ → ℕ) (k : ℕ) : ℕ := ∑ h : Fin 9, if cum e (h.val + 1) ≤ k then 1 else 0

theorem item_countLe {k : ℕ} (hk : k < cum e 9) :
    countLe e k < 9 ∧ cum e (countLe e k) ≤ k ∧ k < cum e (countLe e k + 1) := by
  have hex : ∃ g, g < 9 ∧ cum e g ≤ k ∧ k < cum e (g + 1) := by
    by_contra hno
    have : ∀ g, g ≤ 9 → cum e g ≤ k := by
      intro g
      induction g with
      | zero => intro _; exact Nat.zero_le _
      | succ g ih =>
        intro hg
        by_contra hgt
        exact hno ⟨g, by omega, ih (by omega), by omega⟩
    have := this 9 le_rfl
    omega
  obtain ⟨g, h1, h2, h3⟩ := hex
  have hc : countLe e k = g := by
    have hval : ∀ h : Fin 9, (if cum e (h.val + 1) ≤ k then 1 else 0) = if h.val < g then 1 else 0 := by
      intro h
      by_cases hg : h.val < g
      · have : cum e (h.val + 1) ≤ cum e g := cum_le hg
        rw [if_pos hg, if_pos (by omega)]
      · have : cum e (g + 1) ≤ cum e (h.val + 1) := cum_le (by omega)
        rw [if_neg hg, if_neg (by omega)]
    unfold countLe
    rw [Finset.sum_congr rfl (fun h _ => hval h)]
    clear hval h2 h3 hk
    interval_cases g <;> decide
  rw [hc]
  exact ⟨h1, h2, h3⟩

end Cert.Sched

end
-- ==== Proof.TableWords.lean ====
/-
  The words of the four tables, from the group sizes' words: each stage of the host's computation read at an entry as the
  word of a natural number (`Sched.lean`'s offsets, counts and running counts).
-/
module

public import proofs.«01_k».proof.Proof.Stages
public import proofs.«01_k».proof.Proof.Sched

@[expose] public section

noncomputable section

namespace Cert.KernelIdeal.Stages

open Idealize.ShloMosaic Idealize.ShloMosaic.TcCoe Cert.KernelIdeal.Gen Cert.KernelIdeal
open Idealize.ShloMosaic.Routing (shape0 shape1 shape2 pyDiv)
open Cert.Sched

open Facts
attribute [local instance] Cert.KernelIdeal.Gen.facts

theorem minsi_word {a b : Nat} (ha : a < 2 ^ 31) (hb : b < 2 ^ 31) :
    IntOp.minsi (BitVec.ofNat 32 a) (BitVec.ofNat 32 b) = BitVec.ofNat 32 (min a b) := by
  unfold IntOp.minsi
  rw [Routing.slt_ofNat32 ha hb]
  rcases Nat.lt_or_ge a b with h | h
  · rw [if_pos (by simpa using h), Nat.min_eq_left h.le]
  · rw [if_neg (by simpa using h), Nat.min_eq_right h]

theorem sub_word {a b : Nat} (ha : a < 2 ^ 31) (hb : b ≤ a) : BitVec.ofNat 32 a - BitVec.ofNat 32 b = BitVec.ofNat 32 (a - b) := by
  apply BitVec.eq_of_toNat_eq
  simp only [BitVec.toNat_sub, BitVec.toNat_ofNat]
  omega

theorem add_word (a b : Nat) : BitVec.ofNat 32 a + BitVec.ofNat 32 b = BitVec.ofNat 32 (a + b) :=
  (BitVec.ofNat_add a b).symm

theorem slt_word {a b : Nat} (ha : a < 2 ^ 31) (hb : b < 2 ^ 31) :
    IntOp.cmpi .slt (BitVec.ofNat 32 a) (BitVec.ofNat 32 b) = BitVec.ofBool (decide (a < b)) := by
  rw [← Routing.slt_ofNat32 ha hb]; rfl

theorem sle_word {a b : Nat} (ha : a < 2 ^ 31) (hb : b < 2 ^ 31) :
    IntOp.cmpi .sle (BitVec.ofNat 32 a) (BitVec.ofNat 32 b) = BitVec.ofBool (decide (a ≤ b)) := by
  rw [← Routing.sle_ofNat32 ha hb]; rfl

theorem sgt_word {a b : Nat} (ha : a < 2 ^ 31) (hb : b < 2 ^ 31) :
    IntOp.cmpi .sgt (BitVec.ofNat 32 a) (BitVec.ofNat 32 b) = BitVec.ofBool (decide (b < a)) := by
  rw [← Routing.slt_ofNat32 hb ha]; rfl

/-- The running sum of the sizes. -/
def run (n : ℕ → ℕ) (g : ℕ) : ℕ := ((List.range g).map n).sum

theorem run_succ (n : ℕ → ℕ) (g : ℕ) : run n (g + 1) = run n g + n g := by
  unfold run
  rw [List.range_succ, List.map_append, List.sum_append]
  simp

/-- The offsets of the sizes `n`, cut at the number of rows; past the eighth group the rest. -/
def offs (n : ℕ → ℕ) (g : ℕ) : ℕ := if g = 9 then 8192 else min (run n g) 8192

theorem offs_le (n : ℕ → ℕ) (g : ℕ) : offs n g ≤ 8192 := by
  unfold offs
  split <;> omega

theorem offs_Offs (n : ℕ → ℕ) : Offs (offs n) where
  zero := by simp [offs, run]
  mono g hg := by
    unfold offs
    rw [run_succ]
    split <;> split <;> omega
  last := by simp [offs]

theorem run_lt (n : ℕ → ℕ) (hn : ∀ i, i < 8 → n i < 2 ^ 28) : ∀ g, g ≤ 8 → run n g ≤ g * (2 ^ 28 - 1) := by
  intro g
  induction g with
  | zero => intro _; simp [run]
  | succ g ih =>
    intro hg
    rw [run_succ]
    have := ih (by omega)
    have := hn g (by omega)
    omega

theorem cum_eq (e : ℕ → ℕ) (g : ℕ) : ((List.range g).map (cnt e)).sum = cum e g := by
  induction g with
  | zero => rfl
  | succ g ih =>
    rw [List.range_succ, List.map_append, List.sum_append, ih]
    simp [cum]

/-! ## The stages -/

section
variable (n : ℕ → ℕ)

theorem run_at (hn : ∀ i, i < 8 → n i < 2 ^ 28) (gs : IVec S8 32) (hg : ∀ i : Fin 8, gs (ValueIdx.ix1 i) = BitVec.ofNat 32 (n i.val)) (j : Fin 8) :
    (Host.reduceWindow IntOp.addi ![8] ![1] ![7] ![0] gs (broadcastInDim S_ ![] bcast_S_S_ (constantI S_ 32 0#32)) reduceWindows_S8_S8_w8s1p7_0 h_S_ : IVec S8 32) (ValueIdx.ix1 j)
      = BitVec.ofNat 32 (run n (j.val + 1)) :=
  Routing.cumsum1 (N := 8) (Nm1 := 7) rfl gs n hg _ rfl _ _ j

theorem off_at (hn : ∀ i, i < 8 → n i < 2 ^ 28) (v0 : IVec S8 32) (hv : ∀ j : Fin 8, v0 (ValueIdx.ix1 j) = BitVec.ofNat 32 (run n (j.val + 1))) (j : Fin 10) :
    offsOf v0 (ValueIdx.ix1 j) = BitVec.ofNat 32 (offs n j.val) := by
  have hmin : ∀ j : Fin 8, IntOp.minsi (v0 (ValueIdx.ix1 j)) 8192#32 = BitVec.ofNat 32 (offs n (j.val + 1)) := by
    intro j
    have h1 := run_lt n hn (j.val + 1) (by omega)
    have h2 : ¬ j.val + 1 = 9 := by omega
    rw [hv, minsi_word (by omega) (by decide), offs, if_neg h2]
  have h0 : offs n 0 = 0 := (offs_Offs n).zero
  have h9 : offs n 9 = 8192 := (offs_Offs n).last
  have piece := fun (k : ℕ) (hk : k < 3) (m : ℕ) (x : (⟨1, ![m]⟩ : Shape).Idx → BitVec 32) hx (pre : ℕ) hpre (i : Fin m) (hi : pre + i.val = j.val) =>
    concatenate_apply_piece (t := S10) 0
      [⟨S1, (broadcastInDim S1 ![] bcast_S_S1 (constantI S_ 32 0#32) : IVec S1 32)⟩,
        ⟨S8, (minsi v0 (broadcastInDim S8 ![] bcast_S_S8 (constantI S_ 32 8192#32)) : IVec S8 32)⟩,
        ⟨S1, (broadcastInDim S1 ![] bcast_S_S1 (constantI S_ 32 8192#32) : IVec S1 32)⟩] concatenates_S1_S8_S1_S10_d0
      (ValueIdx.ix1 j) k hk ⟨1, ![m]⟩ x hx rfl pre hpre (ValueIdx.ix1 i) (fun b hb => absurd (Subsingleton.elim (α := Fin 1) _ _) hb) hi
  unfold offsOf
  rcases Nat.eq_zero_or_pos j.val with hj | hj
  · rw [hj, h0]
    exact (piece 0 (by omega) 1 _ rfl 0 rfl 0 hj.symm).trans rfl
  · rcases Nat.lt_or_ge j.val 9 with hj9 | hj9
    · refine (piece 1 (by omega) 8 _ rfl 1 rfl ⟨j.val - 1, by omega⟩ (by show 1 + (j.val - 1) = _; omega)).trans ?_
      refine (hmin ⟨j.val - 1, by omega⟩).trans ?_
      show BitVec.ofNat 32 (offs n (j.val - 1 + 1)) = _
      rw [Nat.sub_add_cancel hj]
    · have hj' : j.val = 9 := by omega
      rw [hj', h9]
      exact (piece 2 (by omega) 1 _ rfl 9 rfl 0 hj'.symm).trans rfl

variable (v5 : IVec S10 32)

theorem lo_at (h5 : ∀ j : Fin 10, v5 (ValueIdx.ix1 j) = BitVec.ofNat 32 (offs n j.val)) (j : Fin 9) :
    extractStridedSlice S9 ![0] v5 slices_S10_S9_0 (ValueIdx.ix1 j) = BitVec.ofNat 32 (offs n j.val) := by
  refine (Routing.slice1 (m := 10) (n := 9) 0 v5 _ j (by omega)).trans ((h5 _).trans ?_)
  simp only [Nat.zero_add]

theorem hi_at (h5 : ∀ j : Fin 10, v5 (ValueIdx.ix1 j) = BitVec.ofNat 32 (offs n j.val)) (j : Fin 9) :
    extractStridedSlice S9 ![1] v5 slices_S10_S9_1 (ValueIdx.ix1 j) = BitVec.ofNat 32 (offs n (j.val + 1)) := by
  refine (Routing.slice1 (m := 10) (n := 9) 1 v5 _ j (by omega)).trans ((h5 _).trans ?_)
  simp only [Nat.add_comm]

theorem div_at (v : IVec S9 32) (c : IVec S_ 32) (hc : c = constantI S_ 32 512#32) (j : Fin 9) {a : ℕ} (ha : a < 2 ^ 31)
    (hv : v (ValueIdx.ix1 j) = BitVec.ofNat 32 a) : pyDiv bcast_S_S9 v c (ValueIdx.ix1 j) = BitVec.ofNat 32 (a / 512) :=
  Routing.pyDiv_ap _ v c (ValueIdx.ix1 j) hv (by rw [hc]; rfl) ha (by decide) (by decide)

theorem bit_eq {p : Prop} [Decidable p] : BitVec.ofBool (decide p) = 1#1 ↔ p := by
  by_cases h : p <;> simp [h]

/-- How many tiles each group meets. -/
theorem cnt_at (v6 v7 v8 v12 : IVec S9 32) (h6 : ∀ j : Fin 9, v6 (ValueIdx.ix1 j) = BitVec.ofNat 32 (offs n j.val))
    (h7 : ∀ j : Fin 9, v7 (ValueIdx.ix1 j) = BitVec.ofNat 32 (offs n (j.val + 1)))
    (h8 : ∀ j : Fin 9, v8 (ValueIdx.ix1 j) = BitVec.ofNat 32 (offs n j.val / 512))
    (h12 : v12 = pyDiv bcast_S_S9 (subi v7 (broadcastInDim S9 ![] bcast_S_S9 (constantI S_ 32 1#32))) (constantI S_ 32 512#32))
    (j : Fin 9) :
    select (cmpi .sgt v7 v6) (addi (subi v12 v8) (broadcastInDim S9 ![] bcast_S_S9 (constantI S_ 32 1#32)))
        (broadcastInDim S9 ![] bcast_S_S9 (constantI S_ 32 0#32)) (ValueIdx.ix1 j)
      = BitVec.ofNat 32 (cnt (offs n) j.val) := by
  have b1 := offs_le n j.val
  have b2 := offs_le n (j.val + 1)
  show (if IntOp.cmpi .sgt (v7 (ValueIdx.ix1 j)) (v6 (ValueIdx.ix1 j)) = 1#1 then v12 (ValueIdx.ix1 j) - v8 (ValueIdx.ix1 j) + 1#32 else 0#32) = _
  rw [h6, h7, h8, sgt_word (by omega) (by omega)]
  by_cases h : offs n j.val < offs n (j.val + 1)
  · rw [if_pos (bit_eq.2 h), cnt_pos h]
    have : v12 (ValueIdx.ix1 j) = BitVec.ofNat 32 ((offs n (j.val + 1) - 1) / 512) := by
      rw [h12]
      refine div_at _ _ rfl j (by omega) ?_
      show v7 (ValueIdx.ix1 j) - 1#32 = _
      rw [h7]
      exact sub_word (b := 1) (by omega) (by omega)
    rw [this, sub_word (by omega) (by omega)]
    exact add_word _ 1
  · rw [if_neg (fun hh => h (bit_eq.1 hh)), cnt_zero h]

theorem cum_at (v16 : IVec S9 32) (h16 : ∀ j : Fin 9, v16 (ValueIdx.ix1 j) = BitVec.ofNat 32 (cnt (offs n) j.val)) (j : Fin 9) :
    (Host.reduceWindow IntOp.addi ![9] ![1] ![8] ![0] v16 (broadcastInDim S_ ![] bcast_S_S_ (constantI S_ 32 0#32)) reduceWindows_S9_S9_w9s1p8_0 h_S_ : IVec S9 32) (ValueIdx.ix1 j)
      = BitVec.ofNat 32 (cum (offs n) (j.val + 1)) := by
  rw [← cum_eq]
  exact Routing.cumsum1 (N := 9) (Nm1 := 8) rfl v16 (cnt (offs n)) h16 _ rfl _ _ j

/-- The total number of items, as the host takes it out of the running counts. -/
theorem tot_at (v17 : IVec S9 32) (h17 : ∀ j : Fin 9, v17 (ValueIdx.ix1 j) = BitVec.ofNat 32 (cum (offs n) (j.val + 1))) :
    (shapeCast S_ (extractStridedSlice S1 ![8] v17 slices_S9_S1_8) shapeCasts_S1_S_ : IVec S_ 32) ValueIdx.ix0 = BitVec.ofNat 32 (cum (offs n) 9) := by
  have h : ∀ i : S1.Idx, extractStridedSlice S1 ![8] v17 slices_S9_S1_8 i = v17 (ValueIdx.ix1 8) := by
    intro i
    have hi : i = ValueIdx.ix1 (0 : Fin 1) := funext fun a => match a with | ⟨0, _⟩ => Subsingleton.elim (α := Fin 1) _ _
    rw [hi]
    exact Routing.slice1 (m := 9) (n := 1) 8 v17 _ 0 (by decide)
  exact (h _).trans (h17 8)

theorem cum_lt (g : ℕ) (hg : g ≤ 9) : cum (offs n) g ≤ 24 :=
  (cum_le hg).trans (offs_Offs n).cum_nine.2

theorem valid_at (v17 : IVec S9 32) (h17 : ∀ j : Fin 9, v17 (ValueIdx.ix1 j) = BitVec.ofNat 32 (cum (offs n) (j.val + 1))) (w : Fin 24) :
    (extui 32 (cmpi .slt (iotaInDim S24 32 0) (broadcastInDim S24 ![] bcast_S_S24
        (shapeCast S_ (extractStridedSlice S1 ![8] v17 slices_S9_S1_8) shapeCasts_S1_S_ : IVec S_ 32)) : IVec S24 1) natLt_1_32 : IVec S24 32) (ValueIdx.ix1 w)
      = BitVec.ofNat 32 (if w.val < cum (offs n) 9 then 1 else 0) := by
  have h1 := cum_lt n 9 le_rfl
  show BitVec.setWidth 32 (IntOp.cmpi .slt (BitVec.ofNat 32 w.val) (broadcastInDim S24 ![] bcast_S_S24
        (shapeCast S_ (extractStridedSlice S1 ![8] v17 slices_S9_S1_8) shapeCasts_S1_S_ : IVec S_ 32) (ValueIdx.ix1 w))) = _
  rw [Routing.bc0, tot_at n v17 h17, slt_word (by omega) (by omega)]
  exact Routing.setWidth_ofBool _

theorem item_at (v17 : IVec S9 32) (h17 : ∀ j : Fin 9, v17 (ValueIdx.ix1 j) = BitVec.ofNat 32 (cum (offs n) (j.val + 1))) (w : Fin 24) :
    (minsi (iotaInDim S24 32 0) (broadcastInDim S24 ![] bcast_S_S24 (subi
        (shapeCast S_ (extractStridedSlice S1 ![8] v17 slices_S9_S1_8) shapeCasts_S1_S_ : IVec S_ 32) (constantI S_ 32 1#32))) : IVec S24 32) (ValueIdx.ix1 w)
      = BitVec.ofNat 32 (min w.val (cum (offs n) 9 - 1)) := by
  have h1 := cum_lt n 9 le_rfl
  have h2 := (offs_Offs n).cum_nine
  show IntOp.minsi (BitVec.ofNat 32 w.val) (broadcastInDim S24 ![] bcast_S_S24 (subi
        (shapeCast S_ (extractStridedSlice S1 ![8] v17 slices_S9_S1_8) shapeCasts_S1_S_ : IVec S_ 32) (constantI S_ 32 1#32)) (ValueIdx.ix1 w)) = _
  rw [Routing.bc0]
  show IntOp.minsi _ ((shapeCast S_ (extractStridedSlice S1 ![8] v17 slices_S9_S1_8) shapeCasts_S1_S_ : IVec S_ 32) ValueIdx.ix0 - 1#32) = _
  rw [tot_at n v17 h17]
  rw [show BitVec.ofNat 32 (cum (offs n) 9) - 1#32 = BitVec.ofNat 32 (cum (offs n) 9 - 1) from sub_word (b := 1) (by omega) (by omega)]
  exact minsi_word (by omega) (by omega)

/-- The group of point `w`. -/
def G (w : ℕ) : ℕ := countLe (offs n) (min w (cum (offs n) 9 - 1))

/-- The tile of point `w`. -/
def T (w : ℕ) : ℕ := offs n (G n w) / 512 + min w (cum (offs n) 9 - 1) - cum (offs n) (G n w)

theorem sched : Sched (offs n) (G n) (T n) where
  offs := offs_Offs n
  item t _ := by
    have h2 := (offs_Offs n).cum_nine
    have h := item_countLe (e := offs n) (k := min t (cum (offs n) 9 - 1)) (by omega)
    exact ⟨h.1, h.2.1, h.2.2, rfl⟩

theorem group_at (v17 : IVec S9 32) (h17 : ∀ j : Fin 9, v17 (ValueIdx.ix1 j) = BitVec.ofNat 32 (cum (offs n) (j.val + 1)))
    (v28 : IVec S24 32) (h28 : ∀ w : Fin 24, v28 (ValueIdx.ix1 w) = BitVec.ofNat 32 (min w.val (cum (offs n) 9 - 1))) (w : Fin 24) :
    (Host.reduce IntOp.addi (extui 32 (cmpi .sle (broadcastInDim S9x24 ![0, 1] bcast_S9x1_S9x24_0_1 (broadcastInDim S9x1 ![0] bcast_S9_S9x1_0 v17))
        (broadcastInDim S9x24 ![0, 1] bcast_S1x24_S9x24_0_1 (broadcastInDim S1x24 ![1] bcast_S24_S1x24_1 v28)) : IVec S9x24 1) natLt_1_32)
      (constantI S_ 32 0#32) reducesTo_S9x24_S24_d0 h_S_ : IVec S24 32) (ValueIdx.ix1 w) = BitVec.ofNat 32 (G n w.val) := by
  apply BitVec.eq_of_toNat_eq
  have hG : G n w.val < 9 := (sched n).group_lt w.isLt
  rw [StableHlo.Predicate.toNat_reduce_count_rows (n := 9) (m := 24) (by decide), BitVec.toNat_ofNat, Nat.mod_eq_of_lt (by omega)]
  unfold G countLe
  rw [← Finset.card_filter]
  refine congrArg Finset.card (Finset.filter_congr fun p _ => ?_)
  change cmpi _ _ _ (StableHlo.Predicate.ij p w) = 1#1 ↔ _
  rw [Routing.ij_eq_ix2]
  show IntOp.cmpi .sle (broadcastInDim S9x24 ![0, 1] bcast_S9x1_S9x24_0_1 (broadcastInDim S9x1 ![0] bcast_S9_S9x1_0 v17) (ValueIdx.ix2 p w))
    (broadcastInDim S9x24 ![0, 1] bcast_S1x24_S9x24_0_1 (broadcastInDim S1x24 ![1] bcast_S24_S1x24_1 v28) (ValueIdx.ix2 p w)) = 1#1 ↔ _
  have e1 : broadcastInDim S9x24 ![0, 1] bcast_S9x1_S9x24_0_1 (broadcastInDim S9x1 ![0] bcast_S9_S9x1_0 v17) (ValueIdx.ix2 p w) = v17 (ValueIdx.ix1 p) :=
    Routing.bcRows (n := 9) (m := 24) _ _ v17 p w
  have e2 : broadcastInDim S9x24 ![0, 1] bcast_S1x24_S9x24_0_1 (broadcastInDim S1x24 ![1] bcast_S24_S1x24_1 v28) (ValueIdx.ix2 p w) = v28 (ValueIdx.ix1 w) :=
    Routing.bcCols (n := 9) (m := 24) _ _ v28 p w
  have b1 := cum_lt n (p.val + 1) (by omega)
  have b2 := cum_lt n 9 le_rfl
  rw [e1, e2, h17, h28, sle_word (by omega) (by omega)]
  exact bit_eq

theorem take_at (x : IVec S9 32) (g : IVec S24 32) (hg : ∀ w : Fin 24, g (ValueIdx.ix1 w) = BitVec.ofNat 32 (G n w.val)) (w : Fin 24) :
    takeOf x g (ValueIdx.ix1 w) = x (ValueIdx.ix1 ⟨G n w.val, (sched n).group_lt w.isLt⟩) := by
  have hG : G n w.val < 9 := (sched n).group_lt w.isLt
  refine Routing.gather_take1 (N := 9) (n := 24) _ rfl rfl rfl rfl x (idxCol g) w ⟨G n w.val, hG⟩ ?_ (by decide)
  unfold idxCol
  refine (Routing.bcCol (n := 24) _ _ w).trans ?_
  show (if IntOp.cmpi .slt (g (ValueIdx.ix1 w)) 0#32 = 1#1 then g (ValueIdx.ix1 w) + 9#32 else g (ValueIdx.ix1 w)) = BitVec.ofNat 32 (G n w.val)
  rw [hg, show IntOp.cmpi .slt (BitVec.ofNat 32 (G n w.val)) 0#32 = _ from slt_word (b := 0) (by omega) (by decide), if_neg]
  simp

theorem tile_at (v8 v16 v17 : IVec S9 32) (v28 v29 : IVec S24 32) (h8 : ∀ j : Fin 9, v8 (ValueIdx.ix1 j) = BitVec.ofNat 32 (offs n j.val / 512))
    (h16 : ∀ j : Fin 9, v16 (ValueIdx.ix1 j) = BitVec.ofNat 32 (cnt (offs n) j.val))
    (h17 : ∀ j : Fin 9, v17 (ValueIdx.ix1 j) = BitVec.ofNat 32 (cum (offs n) (j.val + 1)))
    (h28 : ∀ w : Fin 24, v28 (ValueIdx.ix1 w) = BitVec.ofNat 32 (min w.val (cum (offs n) 9 - 1)))
    (h29 : ∀ w : Fin 24, v29 (ValueIdx.ix1 w) = BitVec.ofNat 32 (G n w.val)) (w : Fin 24) :
    subi (addi (takeOf v8 v29) v28) (subi (takeOf v17 v29) (takeOf v16 v29)) (ValueIdx.ix1 w) = BitVec.ofNat 32 (T n w.val) := by
  show (takeOf v8 v29 (ValueIdx.ix1 w) + v28 (ValueIdx.ix1 w)) - (takeOf v17 v29 (ValueIdx.ix1 w) - takeOf v16 v29 (ValueIdx.ix1 w)) = _
  rw [take_at n v8 v29 h29, take_at n v17 v29 h29, take_at n v16 v29 h29, h8, h16, h17, h28]
  dsimp only
  have hi := (sched n).item w.val w.isLt
  have h1 : cum (offs n) (G n w.val + 1) = cum (offs n) (G n w.val) + cnt (offs n) (G n w.val) := rfl
  have h2 := cum_lt n (G n w.val + 1) hi.g_lt
  have h3 := offs_le n (G n w.val)
  have h4 := hi.lo
  have h5 := cum_lt n 9 le_rfl
  rw [add_word, sub_word (by omega) (by omega), sub_word (by omega) (by omega)]
  unfold T
  refine congrArg (BitVec.ofNat 32) ?_
  omega

end

end Cert.KernelIdeal.Stages

end
-- ==== Proof.Tables.lean ====
/-
  What the buffers hold when the kernel is launched: the four tables at their entries, the weight scales in their reshaped
  form, the arguments untouched.
-/
module

public import proofs.«01_k».proof.Proof.TableWords

@[expose] public section

noncomputable section

namespace Cert.KernelIdeal.Stages

open Idealize.ShloMosaic Idealize.ShloMosaic.TcCoe Cert.KernelIdeal.Gen Cert.KernelIdeal
open Cert.Sched

open Facts
attribute [local instance] Cert.KernelIdeal.Gen.facts

variable {F : FTy → Type} [FloatOps F]

/-- The host's lines before the launch. -/
abbrev opss : List (List (HloOp τ sig (Elt F))) :=
  [hostOps0, hostOps0_1, hostOps0_2, hostOps0_3, hostOps0_4, hostOps0_5, hostOps0_6, hostOps0_7, hostOps0_8, hostOps0_9, hostOps0_10]

/-- The contents after them. -/
def atLaunch (W : Idealize.ShloMosaic.Valuation τ sig (Elt F)) : Idealize.ShloMosaic.Valuation τ sig (Elt F) :=
  StableHlo.after (opss (F := F)).flatten W

theorem atLaunch_eq (W : Idealize.ShloMosaic.Valuation τ sig (Elt F)) :
    atLaunch W = StableHlo.after hostOps0_10 (StableHlo.after hostOps0_9 (StableHlo.after hostOps0_8 (StableHlo.after hostOps0_7
      (StableHlo.after hostOps0_6 (StableHlo.after hostOps0_5 (StableHlo.after hostOps0_4 (StableHlo.after hostOps0_3
        (StableHlo.after hostOps0_2 (StableHlo.after hostOps0_1 (StableHlo.after hostOps0 W)))))))))) := by
  unfold atLaunch opss
  rw [List.flatten_cons, StableHlo.after_append, List.flatten_cons, StableHlo.after_append, List.flatten_cons, StableHlo.after_append,
    List.flatten_cons, StableHlo.after_append, List.flatten_cons, StableHlo.after_append, List.flatten_cons, StableHlo.after_append,
    List.flatten_cons, StableHlo.after_append, List.flatten_cons, StableHlo.after_append, List.flatten_cons, StableHlo.after_append,
    List.flatten_cons, StableHlo.after_append, List.flatten_cons, StableHlo.after_append, List.flatten_nil, StableHlo.after_nil]

variable (W : Idealize.ShloMosaic.Valuation τ sig (Elt F))

theorem launch_main_arg0 : atLaunch W main_arg0 = W main_arg0 := by
  rw [atLaunch_eq, keep10_main_arg0, keep9_main_arg0, keep8_main_arg0, keep7_main_arg0, keep6_main_arg0, keep5_main_arg0, keep4_main_arg0, keep3_main_arg0, keep2_main_arg0, keep1_main_arg0, keep0_main_arg0]

theorem launch_main_arg1 : atLaunch W main_arg1 = W main_arg1 := by
  rw [atLaunch_eq, keep10_main_arg1, keep9_main_arg1, keep8_main_arg1, keep7_main_arg1, keep6_main_arg1, keep5_main_arg1, keep4_main_arg1, keep3_main_arg1, keep2_main_arg1, keep1_main_arg1, keep0_main_arg1]

theorem launch_main_arg2 : atLaunch W main_arg2 = W main_arg2 := by
  rw [atLaunch_eq, keep10_main_arg2, keep9_main_arg2, keep8_main_arg2, keep7_main_arg2, keep6_main_arg2, keep5_main_arg2, keep4_main_arg2, keep3_main_arg2, keep2_main_arg2, keep1_main_arg2, keep0_main_arg2]

theorem launch_main_arg3 : atLaunch W main_arg3 = W main_arg3 := by
  rw [atLaunch_eq, keep10_main_arg3, keep9_main_arg3, keep8_main_arg3, keep7_main_arg3, keep6_main_arg3, keep5_main_arg3, keep4_main_arg3, keep3_main_arg3, keep2_main_arg3, keep1_main_arg3, keep0_main_arg3]

theorem launch_main_arg4 : atLaunch W main_arg4 = W main_arg4 := by
  rw [atLaunch_eq, keep10_main_arg4, keep9_main_arg4, keep8_main_arg4, keep7_main_arg4, keep6_main_arg4, keep5_main_arg4, keep4_main_arg4, keep3_main_arg4, keep2_main_arg4, keep1_main_arg4, keep0_main_arg4]

theorem launch_v54 : (atLaunch W main_v54 : FVec F S8x1x1536 .f32) = shapeCast S8x1x1536 (W main_arg4 : FVec F S8x1536 .f32) shapeCasts_S8x1536_S8x1x1536 := by
  rw [atLaunch_eq, v54_eq, keep9_main_arg4, keep8_main_arg4, keep7_main_arg4, keep6_main_arg4, keep5_main_arg4, keep4_main_arg4, keep3_main_arg4,
    keep2_main_arg4, keep1_main_arg4, keep0_main_arg4]

/-- The group sizes are the words of `n`, each below `2 ^ 28`. -/
structure Sizes (n : ℕ → ℕ) (gs : IVec S8 32) : Prop where
  lt : ∀ i, i < 8 → n i < 2 ^ 28
  val : ∀ i : Fin 8, gs (ValueIdx.ix1 i) = BitVec.ofNat 32 (n i.val)

variable (n : ℕ → ℕ) (hs : Sizes n (W main_arg2 : IVec S8 32))
include hs

theorem stage_v5 (j : Fin 10) : offsOf (StableHlo.after (hostOps0 (F := F)) W main_v0 : IVec S8 32) (ValueIdx.ix1 j) = BitVec.ofNat 32 (offs n j.val) := by
  refine off_at n hs.lt _ (fun j => ?_) j
  rw [v0_eq]
  exact run_at n hs.lt _ hs.val j

/-- The facts at launch, together: the offsets, and each stage the tables are computed from. -/
theorem launch_all :
    (∀ j : Fin 10, (atLaunch W main_v5 : IVec S10 32) (ValueIdx.ix1 j) = BitVec.ofNat 32 (offs n j.val))
    ∧ (∀ w : Fin 24, (atLaunch W main_v53 : IVec S24 32) (ValueIdx.ix1 w) = BitVec.ofNat 32 (T n w.val))
    ∧ (∀ w : Fin 24, (atLaunch W main_v29 : IVec S24 32) (ValueIdx.ix1 w) = BitVec.ofNat 32 (G n w.val))
    ∧ (∀ w : Fin 24, (atLaunch W main_v23 : IVec S24 32) (ValueIdx.ix1 w) = BitVec.ofNat 32 (if w.val < cum (offs n) 9 then 1 else 0)) := by
  rw [atLaunch_eq]
  have h5 := stage_v5 W n hs
  generalize hW0 : StableHlo.after (hostOps0 (F := F)) W = W0 at h5 ⊢
  -- the offsets and their two slices
  have a5 : (StableHlo.after (hostOps0_1 (F := F)) W0 main_v5 : IVec S10 32) = offsOf (W0 main_v0 : IVec S8 32) := v5_eq W0
  have a6 := fun j => (congrFun (v6_eq W0) (ValueIdx.ix1 j)).trans (lo_at n _ h5 j)
  have a7 := fun j => (congrFun (v7_eq W0) (ValueIdx.ix1 j)).trans (hi_at n _ h5 j)
  have ac2 := c2_eq W0
  have b5 : ∀ j : Fin 10, (StableHlo.after (hostOps0_1 (F := F)) W0 main_v5 : IVec S10 32) (ValueIdx.ix1 j) = BitVec.ofNat 32 (offs n j.val) :=
    fun j => (congrFun a5 _).trans (h5 j)
  clear a5 h5
  generalize StableHlo.after (hostOps0_1 (F := F)) W0 = W1 at *
  clear hW0
  -- the first tile of each group
  have c8 : ∀ j : Fin 9, (StableHlo.after (hostOps0_2 (F := F)) W1 main_v8 : IVec S9 32) (ValueIdx.ix1 j) = BitVec.ofNat 32 (offs n j.val / 512) :=
    fun j => (congrFun (v8_eq W1) _).trans (div_at _ _ ac2 j (by have := offs_le n j.val; omega) (a6 j))
  have c5 := fun j => (congrFun (keep2_main_v5 W1) _).trans (b5 j)
  have c6 := fun j => (congrFun (keep2_main_v6 W1) _).trans (a6 j)
  have c7 := fun j => (congrFun (keep2_main_v7 W1) _).trans (a7 j)
  clear a6 a7 ac2 b5
  generalize StableHlo.after (hostOps0_2 (F := F)) W1 = W2 at *
  -- whether a group has rows, and its last row
  have d9 := v9_eq W2
  have d11 := v11_eq W2
  have dc4 := c4_eq W2
  have d5 := fun j => (congrFun (keep3_main_v5 W2) _).trans (c5 j)
  have d8 := fun j => (congrFun (keep3_main_v8 W2) _).trans (c8 j)
  clear c5 c8
  generalize StableHlo.after (hostOps0_3 (F := F)) W2 = W3 at *
  have e12 := v12_eq W3
  rw [d11, dc4] at e12
  have e9 := (keep4_main_v9 W3).trans d9
  have e5 := fun j => (congrFun (keep4_main_v5 W3) _).trans (d5 j)
  have e8 := fun j => (congrFun (keep4_main_v8 W3) _).trans (d8 j)
  clear d5 d8 d9 d11 dc4
  generalize StableHlo.after (hostOps0_4 (F := F)) W3 = W4 at *
  have f15 := v15_eq W4
  have fc6 := c6_eq W4
  have f9 := (keep5_main_v9 W4).trans e9
  have f5 := fun j => (congrFun (keep5_main_v5 W4) _).trans (e5 j)
  have f8 := fun j => (congrFun (keep5_main_v8 W4) _).trans (e8 j)
  clear e5 e9
  generalize StableHlo.after (hostOps0_5 (F := F)) W4 = W5 at *
  -- the tiles each group meets
  have g16 : ∀ j : Fin 9, (StableHlo.after (hostOps0_6 (F := F)) W5 main_v16 : IVec S9 32) (ValueIdx.ix1 j) = BitVec.ofNat 32 (cnt (offs n) j.val) := by
    intro j
    refine (congrFun (v16_eq W5) _).trans ?_
    rw [f9, f15, fc6]
    exact cnt_at n _ _ _ _ c6 c7 e8 e12 j
  have g5 := fun j => (congrFun (keep6_main_v5 W5) _).trans (f5 j)
  have g8 := fun j => (congrFun (keep6_main_v8 W5) _).trans (f8 j)
  clear f15 fc6 f9 f5 f8 e12 e8 c6 c7
  generalize StableHlo.after (hostOps0_6 (F := F)) W5 = W6 at *
  -- their running sum
  have h17 : ∀ j : Fin 9, (StableHlo.after (hostOps0_7 (F := F)) W6 main_v17 : IVec S9 32) (ValueIdx.ix1 j) = BitVec.ofNat 32 (cum (offs n) (j.val + 1)) :=
    fun j => (congrFun (v17_eq W6) _).trans (cum_at n _ g16 j)
  have h16 := fun j => (congrFun (keep7_main_v16 W6) _).trans (g16 j)
  have h5 := fun j => (congrFun (keep7_main_v5 W6) _).trans (g5 j)
  have h8 := fun j => (congrFun (keep7_main_v8 W6) _).trans (g8 j)
  clear g16 g5 g8
  generalize StableHlo.after (hostOps0_7 (F := F)) W6 = W7 at *
  -- which points are valid, and the item of each
  have i23 := fun w => (congrFun (v23_eq W7) _).trans (valid_at n _ h17 w)
  have i28 := fun w => (congrFun (v28_eq W7) _).trans (item_at n _ h17 w)
  have i17 := fun j => (congrFun (keep8_main_v17 W7) _).trans (h17 j)
  have i16 := fun j => (congrFun (keep8_main_v16 W7) _).trans (h16 j)
  have i5 := fun j => (congrFun (keep8_main_v5 W7) _).trans (h5 j)
  have i8 := fun j => (congrFun (keep8_main_v8 W7) _).trans (h8 j)
  clear h17 h16 h5 h8
  generalize StableHlo.after (hostOps0_8 (F := F)) W7 = W8 at *
  -- the group of each point
  have j29 := fun w => (congrFun (v29_eq W8) _).trans (group_at n _ i17 _ i28 w)
  have j23 := fun j => (congrFun (keep9_main_v23 W8) _).trans (i23 j)
  have j28 := fun j => (congrFun (keep9_main_v28 W8) _).trans (i28 j)
  have j17 := fun j => (congrFun (keep9_main_v17 W8) _).trans (i17 j)
  have j16 := fun j => (congrFun (keep9_main_v16 W8) _).trans (i16 j)
  have j5 := fun j => (congrFun (keep9_main_v5 W8) _).trans (i5 j)
  have j8 := fun j => (congrFun (keep9_main_v8 W8) _).trans (i8 j)
  clear i23 i28 i17 i16 i5 i8
  generalize StableHlo.after (hostOps0_9 (F := F)) W8 = W9 at *
  exact ⟨fun j => (congrFun (keep10_main_v5 W9) _).trans (j5 j),
    fun w => (congrFun (v53_eq W9) _).trans (tile_at n _ _ _ _ _ j8 j16 j17 j28 j29 w),
    fun w => (congrFun (keep10_main_v29 W9) _).trans (j29 w), fun w => (congrFun (keep10_main_v23 W9) _).trans (j23 w)⟩

end Cert.KernelIdeal.Stages

end
-- ==== Proof.Body.lean ====
/-
  THE BODY at one grid point: on whole staging buffers and with the four tables readable, it ends with the inputs and the tables as they
  were and the output block at `bodyOut`.
-/
module

public import proofs.«01_k».proof.Proof.Tables
public import proofs.«01_k».proof.Proof.Gen.KernelIdeal.Skeleton
public import Idealize.ShloMosaic.Lib.Pipeline.Frame
public import Idealize.ShloMosaic.Lib.Pipeline.FrameBody
public import Idealize.ShloMosaic.Lib.Tactic
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Facts
attribute [local instance] Cert.KernelIdeal.Gen.facts

variable {F : FTy → Type} [FloatOps F]

local notation "𝕄" => MT nD τ sig Unit (Elt F) ℕ (UR sig nD τ) ℕ

/-- A table's buffer at a share, behind its memref's view. -/
abbrev tblPt (c : Dev nD) (q : PosShare TreeShare) {sp : Space} {S : Shape} {e : EltTy} (M : Memref sig .tc sp S e) (f : Buf (Elt F) (M.view.loc (c : Thread nD τ))) : sProp 𝕄 :=
  M.view.loc (c : Thread nD τ) ↦{q} f

abbrev M53 : Memref sig .tc .smem S24 .i32 := Memref.whole main_v53
abbrev M29 : Memref sig .tc .smem S24 .i32 := Memref.whole main_v29
abbrev M23 : Memref sig .tc .smem S24 .i32 := Memref.whole main_v23
abbrev M5 : Memref sig .tc .smem S10 .i32 := Memref.whole main_v5

/-- The word a load of a 24-word table reads at a grid point. -/
def rd24 (f : S24.Idx → BitVec 32) (i : grid0.Coords) : BitVec 32 :=
  f ((Rect.unit (s := S24) (k0_off1 i) S1.size (k0_off1_inb i)).emb (Shape.Idx.first (numel1_S1.symm ▸ Nat.one_pos)))

/-- The word a load of the offsets reads at an offset. -/
def rd10 (f : S10.Idx → BitVec 32) (off : Fin 1 → Nat) : BitVec 32 :=
  if h : ∀ a, off a + S1.size a ≤ S10.size a then f ((Rect.unit (s := S10) off S1.size h).emb (Shape.Idx.first (numel1_S1.symm ▸ Nat.one_pos))) else 0#32

/-- What the body leaves in the output window, over what it finds there, the tables and the input blocks. -/
def bodyOut (f53 f29 f23 : S24.Idx → BitVec 32) (f5 : S10.Idx → BitVec 32) (i : grid0.Coords) (xb : Vec F S512x2048 .fp8e4m3) (xsb : Vec F S512x1 .f32)
    (wb : Vec F S1x2048x1536 .fp8e4m3) (wsb : Vec F S1x1x1536 .f32) (ob : Vec F S512x1536 .bf16) : Vec F S512x1536 .bf16 :=
  if k0_cond1 (rd24 f23 i) = 1#1 then
    k0_pay1 (rd24 f29 i) (rd24 f53 i) (rd10 f5 (k0_off3 (rd24 f29 i))) (rd10 f5 (k0_off4 (rd24 f29 i))) xb wb xsb wsb ob
  else ob

/-- The body's run at a grid point: a masked-off point leaves the output block; a valid one stores the blended block. -/
theorem kernelRun (c : Dev nD) (q : PosShare TreeShare) (i : grid0.Coords)
    (arg5 : Memref sig .tc .vmem S512x2048 .fp8e4m3) (harg5 : arg5.IsWhole) (arg6 : Memref sig .tc .vmem S512x1 .f32) (harg6 : arg6.IsWhole)
    (arg7 : Memref sig .tc .vmem S1x2048x1536 .fp8e4m3) (harg7 : arg7.IsWhole) (arg8 : Memref sig .tc .vmem S1x1x1536 .f32) (harg8 : arg8.IsWhole)
    (arg9 : Memref sig .tc .vmem S512x1536 .bf16) (harg9 : arg9.IsWhole)
    (f53 : Buf (Elt F) ((M53).view.loc (c : Thread nD τ))) (f29 : Buf (Elt F) ((M29).view.loc (c : Thread nD τ)))
    (f23 : Buf (Elt F) ((M23).view.loc (c : Thread nD τ))) (f5 : Buf (Elt F) ((M5).view.loc (c : Thread nD τ)))
    (xb : Vec F S512x2048 .fp8e4m3) (xsb : Vec F S512x1 .f32) (wb : Vec F S1x2048x1536 .fp8e4m3) (wsb : Vec F S1x1x1536 .f32) (ob : Vec F S512x1536 .bf16)
    (hchk : k0_chk1 (rd24 f23 i) (rd24 f29 i))
    (K : PUnit → sProp 𝕄) :
    iprop(tblPt c q M53 f53 ∗ tblPt c q M29 f29 ∗ tblPt c q M23 f23 ∗ tblPt c q M5 f5
        ∗ owns (c : Thread nD τ) arg5 fullShare xb ∗ owns (c : Thread nD τ) arg6 fullShare xsb ∗ owns (c : Thread nD τ) arg7 fullShare wb
        ∗ owns (c : Thread nD τ) arg8 fullShare wsb ∗ owns (c : Thread nD τ) arg9 fullShare ob
        ∗ (iprop(tblPt c q M53 f53 ∗ tblPt c q M29 f29 ∗ tblPt c q M23 f23 ∗ tblPt c q M5 f5
            ∗ owns (c : Thread nD τ) arg5 fullShare xb ∗ owns (c : Thread nD τ) arg6 fullShare xsb ∗ owns (c : Thread nD τ) arg7 fullShare wb
            ∗ owns (c : Thread nD τ) arg8 fullShare wsb ∗ owns (c : Thread nD τ) arg9 fullShare (bodyOut f53 f29 f23 f5 i xb xsb wb wsb ob)) -∗ K ⟨⟩))
      ⊢ wp frame (wpE (defs₀ (F := F)) Variants.none c none) Set.univ
          (cc0__body i M53 (Memref.isWhole_whole _) M29 (Memref.isWhole_whole _) M23 (Memref.isWhole_whole _) M5 (Memref.isWhole_whole _)
            arg5 harg5 arg6 harg6 arg7 harg7 arg8 harg8 arg9 harg9) K := by
  simp only [cc0__body_eq_skeleton]; unfold cc0__body_skel
  simp only [k0_part1_eq_skeleton]; unfold k0_part1_skel
  unfold owns
  iintro ⟨T53, T29, T23, T5, ⟨%g5, %e5, H5⟩, ⟨%g6, %e6, H6⟩, ⟨%g7, %e7, H7⟩, ⟨%g8, %e8, H8⟩, ⟨%g9, %e9, H9⟩, Hk⟩
  have hchk' : k0_chk1 (M23.view.readAt (Elt F) (Rect.unit (s := S24) (k0_off1 i) S1.size (k0_off1_inb i)).toLoadRect f23 (Shape.Idx.first (numel1_S1.symm ▸ Nat.one_pos)))
      (M29.view.readAt (Elt F) (Rect.unit (s := S24) (k0_off2 i) S1.size (k0_off2_inb i)).toLoadRect f29 (Shape.Idx.first (numel1_S1.symm ▸ Nat.one_pos))) := hchk
  sl_exec
  sl_step
  iapply Hk
  isplitl [T53]; · iexact T53
  isplitl [T29]; · iexact T29
  isplitl [T23]; · iexact T23
  isplitl [T5]; · iexact T5
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  iexists _; isplitr; swap; · iexact H9
  ipureintro
  unfold bodyOut
  by_cases hc : k0_cond1 (rd24 f23 i) = 1#1
  · rw [dif_pos (show k0_cond1 (kernelRun.sl.r c i f23) = 1#1 from hc), if_pos hc, View.read_writes_full]
    have h5 : View.readAt (Elt F) arg5.view (Rect.unit ![0, 0] S512x2048.size inb_S512x2048_S512x2048_0_0).toLoadRect g5 = xb := (View.readAt_full _ _ _).trans e5
    have h6 : View.readAt (Elt F) arg6.view (Rect.unit ![0, 0] S512x1.size inb_S512x1_S512x1_0_0).toLoadRect g6 = xsb := (View.readAt_full _ _ _).trans e6
    have h7 : View.readAt (Elt F) arg7.view (Rect.unit ![0, 0, 0] S1x2048x1536.size inb_S1x2048x1536_S1x2048x1536_0_0_0).toLoadRect g7 = wb := (View.readAt_full _ _ _).trans e7
    have h8 : View.readAt (Elt F) arg8.view (Rect.unit ![0, 0, 0] S1x1x1536.size inb_S1x1x1536_S1x1x1536_0_0_0).toLoadRect g8 = wsb := (View.readAt_full _ _ _).trans e8
    have h9 : View.readAt (Elt F) arg9.view (Rect.unit ![0, 0] S512x1536.size inb_S512x1536_S512x1536_0_0).toLoadRect g9 = ob := (View.readAt_full _ _ _).trans e9
    rw [h5, h6, h7, h8, h9]
    have h3 : rd10 f5 (k0_off3 (rd24 f29 i)) = kernelRun.sl.r_3 c i f29 f23 f5 hchk hc := dif_pos (hchk.1 hc)
    have h4 : rd10 f5 (k0_off4 (rd24 f29 i)) = kernelRun.sl.r_4 c i f29 f23 f5 hchk hc := dif_pos (hchk.2 hc)
    rw [h3, h4]
    rfl
  · rw [dif_neg (show ¬ k0_cond1 (kernelRun.sl.r c i f23) = 1#1 from hc), if_neg hc]
    exact e9

end Cert.KernelIdeal.Hand

end
-- ==== Proof.Data.lean ====
/-
  The proof's data of the launch: the tables the host computed, the pipeline at them, what the body leaves in each
  window, and the body obligation.
-/
module

public import proofs.«01_k».proof.Proof.Body
public import proofs.«01_k».proof.Proof.Gen.KernelIdeal.Launch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Idealize.ShloMosaic.StableHlo

open Facts
attribute [local instance] Cert.KernelIdeal.Gen.facts

variable {F : FTy → Type} [FloatOps F]

local notation "𝕄" => MT nD τ sig Unit (Elt F) ℕ (UR sig nD τ) ℕ

variable (m : (ℓ : Loc nD τ sig) → Buf (Elt F) ℓ)

/-- The buffers when the kernel is launched. -/
def V (c : Dev nD) (b : Ref sig .tc) : Buf (Elt F) ((c : Thread nD τ).loc b) := Stages.atLaunch (fun b => m (c, b)) b

/-- The tables the kernel is launched with. -/
def tabs : pre0.Contents (Elt F) := fun k => V m 0 (pre0.ref k)

variable (hok : ok0 (tabs m))

/-- The tables as the pipeline takes them: within its side condition. -/
abbrev adm (p : Fin 1) : (pcfgs (F := F) p).Adm := ⟨tabs m, hok⟩

/-- The pipeline at the tables. -/
abbrev cfgA : Pipeline.Cfg sig Λ₀ := cfg0 (adm m hok 0)

/-- The block of a window's array at a point. -/
def iblk (c : Dev nD) (w : Fin 5) (t : Fin (cfgA m hok).N) :
    (((cfgA m hok).win w).xblock ((cfgA m hok).grid.coords t)).Idx → Elt F ((cfgA m hok).win w).elt :=
  (((cfgA m hok).win w).blk t).view.read (Elt F) (V m c (Pipeline.arrRef spec0 w))

/-- The output window after the body at a point, over what it held before. -/
def outAt (c : Dev nD) (t : Fin (cfgA m hok).N) (Y : S512x1536.Idx → Elt F .bf16) : S512x1536.Idx → Elt F .bf16 :=
  bodyOut (tabs m 0) (tabs m 1) (tabs m 2) (tabs m 3) (grid0.coords t) (iblk m hok c 0 t) (iblk m hok c 1 t) (iblk m hok c 2 t) (iblk m hok c 3 t) Y

/-- The proof's data: every input window is left as found, the output as `outAt` says. -/
def rdat (c : Dev nD) : RDat τ (Elt F) Unit ℕ (UR sig nD τ) ℕ (cfgA m hok) c where
  A w := V m c (Pipeline.arrRef spec0 w)
  after := fun
    | 0 => fun _ Y X => X = Y
    | 1 => fun _ Y X => X = Y
    | 2 => fun _ Y X => X = Y
    | 3 => fun _ Y X => X = Y
    | 4 => fun t Y X => X = outAt m hok c t Y
  Φ _ := iprop(Pipeline.ΦA spec0 c ∗ Pipeline.ΦT pre0 (tabs m) c)
  q _ := fullShare
  owed _ := 0

theorem finds0 (c : Dev nD) (t : Fin (cfgA m hok).N) (Y) (h : (rdat m hok c).Finds 0 t Y) : Y = iblk m hok c 0 t := by
  obtain ⟨d, hd⟩ := (rdat m hok c).finds_in_eq_fetched 0 rfl (fun _ _ _ => rfl) (fun _ _ _ h => h) t Y h
  exact hd
theorem finds1 (c : Dev nD) (t : Fin (cfgA m hok).N) (Y) (h : (rdat m hok c).Finds 1 t Y) : Y = iblk m hok c 1 t := by
  obtain ⟨d, hd⟩ := (rdat m hok c).finds_in_eq_fetched 1 rfl (fun _ _ _ => rfl) (fun _ _ _ h => h) t Y h
  exact hd
theorem finds2 (c : Dev nD) (t : Fin (cfgA m hok).N) (Y) (h : (rdat m hok c).Finds 2 t Y) : Y = iblk m hok c 2 t := by
  obtain ⟨d, hd⟩ := (rdat m hok c).finds_in_eq_fetched 2 rfl (fun _ _ _ => rfl) (fun _ _ _ h => h) t Y h
  exact hd
theorem finds3 (c : Dev nD) (t : Fin (cfgA m hok).N) (Y) (h : (rdat m hok c).Finds 3 t Y) : Y = iblk m hok c 3 t := by
  obtain ⟨d, hd⟩ := (rdat m hok c).finds_in_eq_fetched 3 rfl (fun _ _ _ => rfl) (fun _ _ _ h => h) t Y h
  exact hd

theorem PhiT_eq (c : Dev nD) : (Pipeline.ΦT pre0 (tabs m) c : sProp 𝕄)
    = iprop(tblPt c fullShare.right M53 (tabs m 0) ∗ tblPt c fullShare.right M29 (tabs m 1) ∗ tblPt c fullShare.right M23 (tabs m 2)
        ∗ tblPt c fullShare.right M5 (tabs m 3)) :=
  bigSep_univ_eq_bigSepL [(0 : Fin 4), (1 : Fin 4), (2 : Fin 4), (3 : Fin 4)] (by decide) (by decide) _

/-- The words the body loads satisfy the side condition of the offsets it reads at. -/
abbrev Checked : Prop := ∀ i : grid0.Coords, k0_chk1 (rd24 (tabs m 2) i) (rd24 (tabs m 1) i)

/-- The staging memrefs the body is handed at a point. -/
abbrev ms0 (t : Fin (cfgA m hok).N) : Memref sig .tc .vmem S512x2048 .fp8e4m3 := spec0_0.stage ((cfgA m hok).slots t 0)
abbrev ms1 (t : Fin (cfgA m hok).N) : Memref sig .tc .vmem S512x1 .f32 := spec0_1.stage ((cfgA m hok).slots t 1)
abbrev ms2 (t : Fin (cfgA m hok).N) : Memref sig .tc .vmem S1x2048x1536 .fp8e4m3 := spec0_2.stage ((cfgA m hok).slots t 2)
abbrev ms3 (t : Fin (cfgA m hok).N) : Memref sig .tc .vmem S1x1x1536 .f32 := spec0_3.stage ((cfgA m hok).slots t 3)
abbrev ms4 (t : Fin (cfgA m hok).N) : Memref sig .tc .vmem S512x1536 .bf16 := spec0_4.stage ((cfgA m hok).slots t 4)
abbrev hs0 (t : Fin (cfgA m hok).N) : (ms0 m hok t).IsWhole := hstage0_0 (((cfgA m hok).slots t 0).cast nbuf0_0)
abbrev hs1 (t : Fin (cfgA m hok).N) : (ms1 m hok t).IsWhole := hstage0_1 (((cfgA m hok).slots t 1).cast nbuf0_1)
abbrev hs2 (t : Fin (cfgA m hok).N) : (ms2 m hok t).IsWhole := hstage0_2 (((cfgA m hok).slots t 2).cast nbuf0_2)
abbrev hs3 (t : Fin (cfgA m hok).N) : (ms3 m hok t).IsWhole := hstage0_3 (((cfgA m hok).slots t 3).cast nbuf0_3)
abbrev hs4 (t : Fin (cfgA m hok).N) : (ms4 m hok t).IsWhole := hstage0_4 (((cfgA m hok).slots t 4).cast nbuf0_4)

/-- The kernel's body as the pipeline calls it at a point. -/
abbrev bodyAt (t : Fin (cfgA m hok).N) : Prog (TpuEff nD τ sig (Elt F) Λ₀ .tc) PUnit :=
  cc0__body (grid0.coords t) M53 (Memref.isWhole_whole _) M29 (Memref.isWhole_whole _) M23 (Memref.isWhole_whole _) M5 (Memref.isWhole_whole _)
    (ms0 m hok t) (hs0 m hok t) (ms1 m hok t) (hs1 m hok t) (ms2 m hok t) (hs2 m hok t) (ms3 m hok t) (hs3 m hok t) (ms4 m hok t) (hs4 m hok t)

theorem defs₀_row (t : Fin (cfgA m hok).N) :
    defs₀ (F := F) .tc (cfgA m hok).body ((cfgA m hok).bodyArgs t ((cfgA m hok).slots t)) = bodyAt m hok t := by
  unfold defs₀; rw [Defs.onTc_tc]

/-- What the body is called with at a point, and what it returns. -/
def bodyPre (c : Dev nD) (t : Fin (cfgA m hok).N) (Y : S512x1536.Idx → Elt F .bf16) : sProp 𝕄 :=
  iprop((Pipeline.ΦA spec0 c ∗ (tblPt c fullShare.right M53 (tabs m 0) ∗ tblPt c fullShare.right M29 (tabs m 1) ∗ tblPt c fullShare.right M23 (tabs m 2)
        ∗ tblPt c fullShare.right M5 (tabs m 3)))
    ∗ (rdat m hok c).owesAt () t.castSucc
    ∗ owns (c : Thread nD τ) (ms0 m hok t) fullShare (iblk m hok c 0 t) ∗ owns (c : Thread nD τ) (ms1 m hok t) fullShare (iblk m hok c 1 t)
    ∗ owns (c : Thread nD τ) (ms2 m hok t) fullShare (iblk m hok c 2 t) ∗ owns (c : Thread nD τ) (ms3 m hok t) fullShare (iblk m hok c 3 t)
    ∗ owns (c : Thread nD τ) (ms4 m hok t) fullShare Y)
def bodyPost (c : Dev nD) (t : Fin (cfgA m hok).N) (Y : S512x1536.Idx → Elt F .bf16) : sProp 𝕄 :=
  iprop((Pipeline.ΦA spec0 c ∗ (tblPt c fullShare.right M53 (tabs m 0) ∗ tblPt c fullShare.right M29 (tabs m 1) ∗ tblPt c fullShare.right M23 (tabs m 2)
        ∗ tblPt c fullShare.right M5 (tabs m 3)))
    ∗ (rdat m hok c).owesAt () t.succ
    ∗ owns (c : Thread nD τ) (ms0 m hok t) fullShare (iblk m hok c 0 t) ∗ owns (c : Thread nD τ) (ms1 m hok t) fullShare (iblk m hok c 1 t)
    ∗ owns (c : Thread nD τ) (ms2 m hok t) fullShare (iblk m hok c 2 t) ∗ owns (c : Thread nD τ) (ms3 m hok t) fullShare (iblk m hok c 3 t)
    ∗ owns (c : Thread nD τ) (ms4 m hok t) fullShare (outAt m hok c t Y))

/-- The body at a point. -/
theorem sound_body (hchk : Checked m) (c : Dev nD) (t : Fin (cfgA m hok).N) (Y : S512x1536.Idx → Elt F .bf16) :
    bodyPre m hok c t Y ⊢ wp frame (wpE (defs₀ (F := F)) Variants.none c none) Set.univ (bodyAt m hok t) (fun _ => bodyPost m hok c t Y) := by
  unfold bodyPre bodyPost bodyAt
  rw [show (rdat m hok c).owesAt () t.succ = (rdat m hok c).owesAt () t.castSucc from rfl]
  iintro ⟨⟨HA, T53, T29, T23, T5⟩, HO, H0, H1, H2, H3, H4⟩
  iapply (kernelRun c fullShare.right (grid0.coords t) (ms0 m hok t) (hs0 m hok t) (ms1 m hok t) (hs1 m hok t) (ms2 m hok t) (hs2 m hok t)
    (ms3 m hok t) (hs3 m hok t) (ms4 m hok t) (hs4 m hok t) (tabs m 0) (tabs m 1) (tabs m 2) (tabs m 3)
    (iblk m hok c 0 t) (iblk m hok c 1 t) (iblk m hok c 2 t) (iblk m hok c 3 t) Y (hchk (grid0.coords t)) _)
  isplitl [T53]; · iexact T53
  isplitl [T29]; · iexact T29
  isplitl [T23]; · iexact T23
  isplitl [T5]; · iexact T5
  isplitl [H0]; · iexact H0
  isplitl [H1]; · iexact H1
  isplitl [H2]; · iexact H2
  isplitl [H3]; · iexact H3
  isplitl [H4]; · iexact H4
  iintro ⟨T53, T29, T23, T5, H0, H1, H2, H3, H4⟩
  isplitl [HA T53 T29 T23 T5]
  · isplitl [HA]; · iexact HA
    isplitl [T53]; · iexact T53
    isplitl [T29]; · iexact T29
    isplitl [T23]; · iexact T23
    iexact T5
  isplitl [HO]; · iexact HO
  isplitl [H0]; · iexact H0
  isplitl [H1]; · iexact H1
  isplitl [H2]; · iexact H2
  isplitl [H3]; · iexact H3
  iexact H4

/-- The body obligation. -/
theorem body_obligation (hchk : Checked m) (c : Dev nD) :
    (rdat m hok c).BodyObligation (defs₀ (F := F)) Variants.none () Set.univ := by
  intro t Y hY
  have e0 := finds0 m hok c t _ (hY 0)
  have e1 := finds1 m hok c t _ (hY 1)
  have e2 := finds2 m hok c t _ (hY 2)
  have e3 := finds3 m hok c t _ (hY 3)
  rw [bigSep_W0, bigSep_W0]
  rw [e0, e1, e2, e3]
  have hΦ : ∀ t, (rdat m hok c).Φ t = iprop(Pipeline.ΦA spec0 c ∗ Pipeline.ΦT pre0 (tabs m) c) := fun _ => rfl
  rw [hΦ, hΦ, PhiT_eq]
  rw [defs₀_row]
  refine BIBase.Entails.trans (Q := bodyPre m hok c t (Y 4)) ?_ ((sound_body m hok hchk c t (Y 4)).trans (wp_mono _ _ _ fun _ => ?_))
  · exact .rfl
  · unfold bodyPost
    iintro ⟨HΦ, HO, H0, H1, H2, H3, H4⟩
    isplitl [HΦ]; · iexact HΦ
    isplitl [HO]; · iexact HO
    isplitl [H0]
    · iexists _; isplitr; swap; · iexact H0
      ipureintro; exact rfl
    isplitl [H1]
    · iexists _; isplitr; swap; · iexact H1
      ipureintro; exact rfl
    isplitl [H2]
    · iexists _; isplitr; swap; · iexact H2
      ipureintro; exact rfl
    isplitl [H3]
    · iexists _; isplitr; swap; · iexact H3
      ipureintro; exact rfl
    iexists _; isplitr; swap; · iexact H4
    ipureintro; exact rfl

end Cert.KernelIdeal.Hand

end
-- ==== Proof.Fits.lean ====
/-
  THE TABLES FIT. From the group sizes' precondition: the sizes are naturals below 2^28, the tables at launch are the schedule's
  words, every window's block lies inside its array, and the body's assumed offsets lie inside the offsets' table.
-/
module

public import proofs.«01_k».proof.Proof.Data
public import proofs.«01_k».proof.Proof.Gen.Pre_sizes_count
public import Idealize.ShloMosaic.Lib.ReduceAll
public import Idealize.ShloMosaic.Lib.WordCmp

@[expose] public section

namespace Cert.KernelIdeal.Hand

open Idealize.ShloMosaic Idealize.ShloMosaic.TcCoe Cert.KernelIdeal Cert.KernelIdeal.Gen
open Cert.KernelIdeal.Stages (Sizes offs T G)
open Cert.Sched
open Facts
attribute [local instance] Cert.KernelIdeal.Gen.facts Cert.Pre_sizes_count.Gen.facts

variable {F : FTy → Type} [FloatOps F]

/-- The precondition read back: each group size is a natural below 2^28. -/
theorem sizes_of_pre (a0 : FVec F S8192x2048 .fp8e4m3) (a1 : FVec F S8192x1 .f32) (gs : IVec S8 32) (a3 : FVec F S8x2048x1536 .fp8e4m3)
    (a4 : FVec F S8x1536 .f32) (h : Cert.Pre_sizes_count.fn (F := F) a0 a1 gs a3 a4 = fun _ => 1#1) :
    Sizes (fun i => if hi : i < 8 then (gs (ValueIdx.ix1 ⟨i, hi⟩)).toNat else 0) gs := by
  have key : ∀ i : Fin 8, (gs (ValueIdx.ix1 i)).toNat < 2 ^ 28 := by
    intro i
    have e := congrFun h (fun a => a.elim0)
    dsimp only [Cert.Pre_sizes_count.fn] at e
    haveI : Subsingleton (Cert.Pre_sizes_count.S_).Idx := ⟨fun a b => funext fun x => x.elim0⟩
    have e1 := Host.reduce_andi_all _ _ _ _ _ e (ValueIdx.ix1 i)
    obtain ⟨e2, e3⟩ := IntOp.andi_eq_one.1 e1
    have e4 := IntOp.cmpi_sge.1 e2
    have e5 := IntOp.cmpi_sle.1 e3
    have e6 : (0 : Int) ≤ (gs (ValueIdx.ix1 i)).toInt := e4
    have e7 : (gs (ValueIdx.ix1 i)).toInt ≤ 268435455 := e5
    have := (gs (ValueIdx.ix1 i)).isLt
    rw [BitVec.toInt_eq_toNat_cond] at e6 e7
    split_ifs at e6 e7 <;> omega
  refine ⟨fun i hi => ?_, fun i => ?_⟩
  · simp only [hi, dif_pos]; exact key ⟨i, hi⟩
  · simp only [i.isLt, dif_pos]
    exact (by simp : gs (ValueIdx.ix1 i) = BitVec.ofNat 32 (gs (ValueIdx.ix1 i)).toNat)

/-- The grid coordinate of a point, as a position of a table. -/
abbrev pos (i : grid0.Coords) : Fin 24 := ⟨(i 0).val, (i 0).isLt⟩

theorem rd24_at (f : IVec S24 32) (i : grid0.Coords) : rd24 f i = f (ValueIdx.ix1 (pos i)) := by
  unfold rd24
  refine congrArg f (funext fun a => ?_)
  have : a = 0 := Subsingleton.elim _ _
  subst this
  refine Fin.ext ?_
  have h := (i 0).isLt
  have h' : (i 0).val < 24 := h
  show (BitVec.ofNat 32 (i 0).val).toNat + 1 * 0 = (i 0).val
  rw [BitVec.toNat_ofNat]; omega

theorem rd10_at (f : IVec S10 32) (off : Fin 1 → ℕ) (j : Fin 10) (h : off 0 = j.val) : rd10 f off = f (ValueIdx.ix1 j) := by
  have hj := j.isLt
  have hoff : ∀ a, off a + S1.size a ≤ S10.size a := by
    intro a
    have : a = 0 := Subsingleton.elim _ _
    subst this
    show off 0 + 1 ≤ 10
    omega
  unfold rd10
  rw [dif_pos hoff]
  refine congrArg f (funext fun a => ?_)
  have : a = 0 := Subsingleton.elim _ _
  subst this
  refine Fin.ext ?_
  show off 0 + 1 * 0 = j.val
  omega

/-- The tables are the schedule's words. -/
structure Tabs (n : ℕ → ℕ) (f53 f29 f23 : IVec S24 32) (f5 : IVec S10 32) : Prop where
  off : ∀ j : Fin 10, f5 (ValueIdx.ix1 j) = BitVec.ofNat 32 (offs n j.val)
  tile : ∀ w : Fin 24, f53 (ValueIdx.ix1 w) = BitVec.ofNat 32 (T n w.val)
  group : ∀ w : Fin 24, f29 (ValueIdx.ix1 w) = BitVec.ofNat 32 (G n w.val)
  valid : ∀ w : Fin 24, f23 (ValueIdx.ix1 w) = BitVec.ofNat 32 (if w.val < cum (offs n) 9 then 1 else 0)

variable {m : (ℓ : Loc nD τ sig) → Buf (Elt F) ℓ} {n : ℕ → ℕ}

theorem tabs_of (hs : Sizes n (m ((0 : Dev nD).tc.loc main_arg2) : IVec S8 32)) : Tabs n (tabs m 0) (tabs m 1) (tabs m 2) (tabs m 3) := by
  obtain ⟨h5, h53, h29, h23⟩ := Stages.launch_all (F := F) (fun b => m (0, b)) n hs
  exact ⟨h5, h53, h29, h23⟩

theorem minsi7 {g : ℕ} (hg : g < 9) : (Scalar.minsi (BitVec.ofNat 32 g) 7#32).toNat = min g 7 := by
  have e : Scalar.minsi (BitVec.ofNat 32 g) 7#32 = BitVec.ofNat 32 (min g 7) := Stages.minsi_word (by omega) (by omega)
  rw [e, BitVec.toNat_ofNat]; omega

section
variable {pf : pre0.Contents (Elt F)} (ht : Tabs n (pf 0) (pf 1) (pf 2) (pf 3)) (i : grid0.Coords)
include ht

theorem at0 : pf.at 0 (Rect.unit (s := S24) (k0_off1 i) S1.size (k0_off1_inb i)) numel1_S1 = BitVec.ofNat 32 (T n (pos i).val) :=
  (rd24_at (pf 0) i).trans (ht.tile _)
theorem at1 : pf.at 1 (Rect.unit (s := S24) (k0_off1 i) S1.size (k0_off1_inb i)) numel1_S1 = BitVec.ofNat 32 (G n (pos i).val) :=
  (rd24_at (pf 1) i).trans (ht.group _)

theorem T_lt : T n (pos i).val < 16 := (Stages.sched n).tile_lt (pos i).isLt
theorem G_lt : G n (pos i).val < 9 := (Stages.sched n).group_lt (pos i).isLt

theorem tile_word : (BitVec.ofNat 32 (T n (pos i).val)).toNat = T n (pos i).val := by
  have := T_lt ht i
  rw [BitVec.toNat_ofNat]; omega

theorem map0 : cc0_transform_0 k0_off1_inb numel1_S1 pf i = ![T n (pos i).val, 0] := by
  have e : cc0_transform_0 k0_off1_inb numel1_S1 pf i = ![(pf.at 0 (Rect.unit (s := S24) (k0_off1 i) S1.size (k0_off1_inb i)) numel1_S1).toNat, 0] := rfl
  rw [e, at0 ht, tile_word ht]
theorem map1 : cc0_transform_1 k0_off1_inb numel1_S1 pf i = ![T n (pos i).val, 0] := by
  have e : cc0_transform_1 k0_off1_inb numel1_S1 pf i = ![(pf.at 0 (Rect.unit (s := S24) (k0_off1 i) S1.size (k0_off1_inb i)) numel1_S1).toNat, 0] := rfl
  rw [e, at0 ht, tile_word ht]
theorem map2 : cc0_transform_2 k0_off1_inb numel1_S1 pf i = ![min (G n (pos i).val) 7, 0, 0] := by
  have e : cc0_transform_2 k0_off1_inb numel1_S1 pf i = ![(Scalar.minsi (pf.at 1 (Rect.unit (s := S24) (k0_off1 i) S1.size (k0_off1_inb i)) numel1_S1 : BitVec 32) 7#32).toNat, 0, 0] := rfl
  rw [e, at1 ht, minsi7 (G_lt ht i)]
theorem map3 : cc0_transform_3 k0_off1_inb numel1_S1 pf i = ![min (G n (pos i).val) 7, 0, 0] := by
  have e : cc0_transform_3 k0_off1_inb numel1_S1 pf i = ![(Scalar.minsi (pf.at 1 (Rect.unit (s := S24) (k0_off1 i) S1.size (k0_off1_inb i)) numel1_S1 : BitVec 32) 7#32).toNat, 0, 0] := rfl
  rw [e, at1 ht, minsi7 (G_lt ht i)]
theorem map4 : cc0_transform_4 k0_off1_inb numel1_S1 pf i = ![T n (pos i).val, 0] := by
  have e : cc0_transform_4 k0_off1_inb numel1_S1 pf i = ![(pf.at 0 (Rect.unit (s := S24) (k0_off1 i) S1.size (k0_off1_inb i)) numel1_S1).toNat, 0] := rfl
  rw [e, at0 ht, tile_word ht]

omit i in
/-- Every window's block lies inside its array. -/
theorem ok_of : ok0 pf := by
  refine ⟨fun i => ⟨?_, .inr (Affine.block_words_dvd (by decide) (by decide))⟩, fun i => ⟨?_, .inl rfl⟩,
    fun i => ⟨?_, .inr (Affine.block_words_dvd (by decide) (by decide))⟩, fun i => ⟨?_, .inl rfl⟩,
    fun i => ⟨?_, .inr (Affine.block_words_dvd (by decide) (by decide))⟩⟩
  · rw [map0 ht]
    have := T_lt ht i
    intro a; fin_cases a
    · show (T n (pos i).val + 1) * 512 ≤ 8192
      omega
    · show (0 + 1) * 2048 ≤ 2048
      omega
  · rw [map1 ht]
    have := T_lt ht i
    intro a; fin_cases a
    · show (T n (pos i).val + 1) * 512 ≤ 8192
      omega
    · show (0 + 1) * 1 ≤ 1
      omega
  · rw [map2 ht]
    intro a; fin_cases a
    · show (min (G n (pos i).val) 7 + 1) * 1 ≤ 8
      omega
    · show (0 + 1) * 2048 ≤ 2048
      omega
    · show (0 + 1) * 1536 ≤ 1536
      omega
  · rw [map3 ht]
    intro a; fin_cases a
    · show (min (G n (pos i).val) 7 + 1) * 1 ≤ 8
      omega
    · show (0 + 1) * 1 ≤ 1
      omega
    · show (0 + 1) * 1536 ≤ 1536
      omega
  · rw [map4 ht]
    have := T_lt ht i
    intro a; fin_cases a
    · show (T n (pos i).val + 1) * 512 ≤ 8192
      omega
    · show (0 + 1) * 1536 ≤ 1536
      omega

theorem off3_eq : k0_off3 (BitVec.ofNat 32 (G n (pos i).val)) 0 = G n (pos i).val := by
  have := G_lt ht i
  show (BitVec.ofNat 32 (G n (pos i).val)).toNat = _
  rw [BitVec.toNat_ofNat]; omega
theorem off4_eq : k0_off4 (BitVec.ofNat 32 (G n (pos i).val)) 0 = G n (pos i).val + 1 := by
  have := G_lt ht i
  show (BitVec.ofNat 32 (G n (pos i).val) + BitVec.ofNat 32 1).toNat = _
  rw [Stages.add_word, BitVec.toNat_ofNat]; omega

theorem chk_of : k0_chk1 (rd24 (pf 2) i) (rd24 (pf 1) i) := by
  have hg := G_lt ht i
  have e : rd24 (pf 1) i = BitVec.ofNat 32 (G n (pos i).val) := (rd24_at (pf 1) i).trans (ht.group _)
  rw [e]
  refine ⟨fun _ a => ?_, fun _ a => ?_⟩
  · have : a = 0 := Subsingleton.elim _ _
    subst this
    rw [off3_eq ht]
    show G n (pos i).val + 1 ≤ 10
    omega
  · have : a = 0 := Subsingleton.elim _ _
    subst this
    rw [off4_eq ht]
    show G n (pos i).val + 1 + 1 ≤ 10
    omega
end

theorem checked_of (ht : Tabs n (tabs m 0) (tabs m 1) (tabs m 2) (tabs m 3)) : Checked m := fun i => chk_of ht i

end Cert.KernelIdeal.Hand

end
-- ==== Proof.Run.lean ====
/-
  THE LAUNCH. From a memory whose tables fit, every weakly fair execution of the kernel's @main ends, and the final memory is
  described by the relational post: the output's array assembled from the blocks the body may leave, every other buffer as at launch.
-/
module

public import proofs.«01_k».proof.Proof.Fits

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.KernelIdeal.Stages (Sizes offs T G)

open Facts
attribute [local instance] Cert.KernelIdeal.Gen.facts

variable {F : FTy → Type} [FloatOps F]
variable (m : (ℓ : Loc nD τ sig) → Buf (Elt F) ℓ) (ρ : Dev nD → PrngReg)

/-! No host operation binds a fresh location. -/

theorem hostOps0_fresh : (hostOps0 : List (HloOp τ sig (Elt F))).Forall fun op => op.fresh = ∅ := by
  repeat' first | exact rfl | refine ⟨rfl, ?_⟩
theorem hostOps0_1_fresh : (hostOps0_1 : List (HloOp τ sig (Elt F))).Forall fun op => op.fresh = ∅ := by
  repeat' first | exact rfl | refine ⟨rfl, ?_⟩
theorem hostOps0_2_fresh : (hostOps0_2 : List (HloOp τ sig (Elt F))).Forall fun op => op.fresh = ∅ := by
  repeat' first | exact rfl | refine ⟨rfl, ?_⟩
theorem hostOps0_3_fresh : (hostOps0_3 : List (HloOp τ sig (Elt F))).Forall fun op => op.fresh = ∅ := by
  repeat' first | exact rfl | refine ⟨rfl, ?_⟩
theorem hostOps0_4_fresh : (hostOps0_4 : List (HloOp τ sig (Elt F))).Forall fun op => op.fresh = ∅ := by
  repeat' first | exact rfl | refine ⟨rfl, ?_⟩
theorem hostOps0_5_fresh : (hostOps0_5 : List (HloOp τ sig (Elt F))).Forall fun op => op.fresh = ∅ := by
  repeat' first | exact rfl | refine ⟨rfl, ?_⟩
theorem hostOps0_6_fresh : (hostOps0_6 : List (HloOp τ sig (Elt F))).Forall fun op => op.fresh = ∅ := by
  repeat' first | exact rfl | refine ⟨rfl, ?_⟩
theorem hostOps0_7_fresh : (hostOps0_7 : List (HloOp τ sig (Elt F))).Forall fun op => op.fresh = ∅ := by
  repeat' first | exact rfl | refine ⟨rfl, ?_⟩
theorem hostOps0_8_fresh : (hostOps0_8 : List (HloOp τ sig (Elt F))).Forall fun op => op.fresh = ∅ := by
  repeat' first | exact rfl | refine ⟨rfl, ?_⟩
theorem hostOps0_9_fresh : (hostOps0_9 : List (HloOp τ sig (Elt F))).Forall fun op => op.fresh = ∅ := by
  repeat' first | exact rfl | refine ⟨rfl, ?_⟩
theorem hostOps0_10_fresh : (hostOps0_10 : List (HloOp τ sig (Elt F))).Forall fun op => op.fresh = ∅ := by
  repeat' first | exact rfl | refine ⟨rfl, ?_⟩

/-- @main is its host prefixes, then the launch. -/
theorem hmain : Pipeline.HMainP (Ix := Unit) (Name := ℕ) (U := UR sig nD τ) (Lvl := ℕ) pcfgs 0 defs₀ Variants.none m (main (F := F)) (V m) :=
  Pipeline.hmainP_prefixes (pcs := pcfgs) (p := 0) (defs₀ := defs₀) (𝒱₀ := Variants.none) m main Stages.opss
    ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩
    ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩
    (fun c => main_chain c)

/-- Every device is the one device of the mesh. -/
theorem dev_eq (c : Dev nD) : c = 0 := Subsingleton.elim _ _

theorem tabs_eq (c : Dev nD) (k) : V m c (pre0.ref k) = tabs m k := by
  rw [dev_eq c]; rfl

theorem share_eq (hok : ok0 (tabs m)) (c : Dev nD) (w : Fin 5) : (rdat m hok c).share w = fullShare := by
  unfold RDat.share; split <;> rfl
theorem owed_eq (hok : ok0 (tabs m)) (c : Dev nD) (t) : (rdat m hok c).owed t = 0 := rfl
theorem A_eq (hok : ok0 (tabs m)) (c : Dev nD) (w : Fin 5) : (rdat m hok c).A w = V m c (Pipeline.arrRef spec0 w) := rfl
theorem Phi_eq (hok : ok0 (tabs m)) (c : Dev nD) (t) :
    (rdat m hok c).Φ t = iprop(Pipeline.ΦA spec0 c ∗ Pipeline.ΦT pre0 (tabs m) c) := rfl

set_option maxHeartbeats 2000000 in
set_option backward.isDefEq.respectTransparency.types false in
/-- The run, from a memory whose tables fit. -/
theorem run_main (hok : ok0 (tabs m)) (hchk : Checked m) :
    θ_run defs (onTc (τ := τ) (main (F := F))) (s₀ m ρ)
      (fun r => RDat.FramePost (cfgA m hok) (rdat m hok) (V m) r ∧ r.2.sem = fun _ => 0) :=
  RDat.θ_run_frameP (Q' := _) pcfgs (adm m hok) (0 : Fin 1) launch0 defs₀ Variants.none (rdat m hok) m ρ main
    (hbody := fun c => body_obligation m hok hchk c) (hshare := share_eq m hok) (howed := owed_eq m hok) (V := V m)
    (hmain := hmain m) (hA := A_eq m hok) (hpf := tabs_eq m) (hΦ := Phi_eq m hok) (hQ' := fun _ h => h)

variable {m ρ} {hok : ok0 (tabs m)}

theorem final_arg0 {r : PUnit × MemSt nD τ sig (Elt F)} (h : RDat.FramePost (cfgA m hok) (rdat m hok) (V m) r) (c : Dev nD) :
    r.2.mem ((c : Thread nD τ).loc main_arg0) = m ((c : Thread nD τ).loc main_arg0) :=
  (RDat.FramePost.arr_in h c 0 rfl).trans (Stages.launch_main_arg0 (fun b => m (c, b)))
theorem final_arg1 {r : PUnit × MemSt nD τ sig (Elt F)} (h : RDat.FramePost (cfgA m hok) (rdat m hok) (V m) r) (c : Dev nD) :
    r.2.mem ((c : Thread nD τ).loc main_arg1) = m ((c : Thread nD τ).loc main_arg1) :=
  (RDat.FramePost.arr_in h c 1 rfl).trans (Stages.launch_main_arg1 (fun b => m (c, b)))
theorem final_arg2 {r : PUnit × MemSt nD τ sig (Elt F)} (h : RDat.FramePost (cfgA m hok) (rdat m hok) (V m) r) (c : Dev nD) :
    r.2.mem ((c : Thread nD τ).loc main_arg2) = m ((c : Thread nD τ).loc main_arg2) :=
  ((h c).2 main_arg2 (Pipeline.mem_restRefs_of main_arg2 (by decide) (by decide : ∀ w, (spec0 w).arr.view.ref ≠ main_arg2))).trans (Stages.launch_main_arg2 (fun b => m (c, b)))
theorem final_arg3 {r : PUnit × MemSt nD τ sig (Elt F)} (h : RDat.FramePost (cfgA m hok) (rdat m hok) (V m) r) (c : Dev nD) :
    r.2.mem ((c : Thread nD τ).loc main_arg3) = m ((c : Thread nD τ).loc main_arg3) :=
  (RDat.FramePost.arr_in h c 2 rfl).trans (Stages.launch_main_arg3 (fun b => m (c, b)))
theorem final_arg4 {r : PUnit × MemSt nD τ sig (Elt F)} (h : RDat.FramePost (cfgA m hok) (rdat m hok) (V m) r) (c : Dev nD) :
    r.2.mem ((c : Thread nD τ).loc main_arg4) = m ((c : Thread nD τ).loc main_arg4) :=
  ((h c).2 main_arg4 (Pipeline.mem_restRefs_of main_arg4 (by decide) (by decide : ∀ w, (spec0 w).arr.view.ref ≠ main_arg4))).trans (Stages.launch_main_arg4 (fun b => m (c, b)))

/-- The frame: from a memory whose group sizes meet the precondition, every execution ends with the arguments unchanged. -/
theorem frame_of (m : (ℓ : Loc nD τ sig) → Buf (Elt F) ℓ) (ρ : Dev nD → PrngReg) {n : ℕ → ℕ}
    (hs : Sizes n (m ((0 : Dev nD).tc.loc main_arg2) : IVec S8 32)) :
    θ_run defs (onTc (τ := τ) (main (F := F))) ⟨m, fun _ => 0, ρ⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  (θ_run defs _ _).mono (fun _ h => ⟨fun c => ⟨final_arg0 h.1 c, final_arg1 h.1 c, final_arg2 h.1 c, final_arg3 h.1 c, final_arg4 h.1 c⟩, h.2⟩)
    (run_main m ρ (ok_of (tabs_of hs)) (checked_of (tabs_of hs)))

end Cert.KernelIdeal.Hand

end

end
-- ==== Proof.KStages.lean ====
/-
  The host's computation of the schedule, stage by stage: what each line of operations leaves in the buffers that later
  lines or the kernel read, over the contents before the line, and what it leaves alone.
-/
module

public import proofs.«01_k».proof.Proof.Gen.Kernel.Launch
public import Idealize.ShloMosaic.Lib.Routing.OpsSet
public import Idealize.ShloMosaic.Lib.Routing.Words
public import Idealize.ShloMosaic.Lib.StableHlo.ReadAt
public import Idealize.ShloMosaic.Lib.StableHlo.Predicate

@[expose] public section

noncomputable section

namespace Cert.Kernel.Stages

open Idealize.ShloMosaic Idealize.ShloMosaic.TcCoe Cert.Kernel.Gen Cert.Kernel
open Idealize.ShloMosaic.Routing (shape0 shape1 shape2 pyDiv)

variable {F : FTy → Type} [FloatOps F] (W : Idealize.ShloMosaic.Valuation τ sig (Elt F))

open Facts
attribute [local instance] Cert.Kernel.Gen.facts

theorem v0_eq : (StableHlo.after (hostOps0 (F := F)) W main_v0 : IVec S8 32)
    = Host.reduceWindow IntOp.addi ![8] ![1] ![7] ![0] (W main_arg2 : IVec S8 32) (broadcastInDim S_ ![] bcast_S_S_ (constantI S_ 32 0#32)) reduceWindows_S8_S8_w8s1p7_0 h_S_ := by
  after_reads_simp
  simp -implicitDefEqProofs only [StableHlo.TRef.toBuf, StableHlo.TRef.ofBuf, cast_cast, cast_eq]

/-- The offsets' concatenation. -/
abbrev offsOf (v0 : IVec S8 32) : IVec S10 32 :=
  concatenate S10 0 [⟨S1, (broadcastInDim S1 ![] bcast_S_S1 (constantI S_ 32 0#32) : IVec S1 32)⟩, ⟨S8, (minsi v0 (broadcastInDim S8 ![] bcast_S_S8 (constantI S_ 32 8192#32) : IVec S8 32) : IVec S8 32)⟩, ⟨S1, (broadcastInDim S1 ![] bcast_S_S1 (constantI S_ 32 8192#32) : IVec S1 32)⟩] concatenates_S1_S8_S1_S10_d0

theorem v5_eq : (StableHlo.after (hostOps0_1 (F := F)) W main_v5 : IVec S10 32) = offsOf (W main_v0 : IVec S8 32) := by
  after_results
  rfl

theorem v6_eq : (StableHlo.after (hostOps0_1 (F := F)) W main_v6 : IVec S9 32) = extractStridedSlice S9 ![0] (offsOf (W main_v0 : IVec S8 32)) slices_S10_S9_0 := by
  after_results
  rfl

theorem v7_eq : (StableHlo.after (hostOps0_1 (F := F)) W main_v7 : IVec S9 32) = extractStridedSlice S9 ![1] (offsOf (W main_v0 : IVec S8 32)) slices_S10_S9_1 := by
  after_results
  rfl

theorem c2_eq : (StableHlo.after (hostOps0_1 (F := F)) W main_c_2 : IVec S_ 32)
    = constantI S_ 32 512#32 := by
  after_reads_simp

theorem v8_eq : (StableHlo.after (hostOps0_2 (F := F)) W main_v8 : IVec S9 32)
    = pyDiv bcast_S_S9 (W main_v6 : IVec S9 32) (W main_c_2 : IVec S_ 32) := by
  after_reads_simp
  simp -implicitDefEqProofs only [StableHlo.TRef.toBuf, StableHlo.TRef.ofBuf, cast_cast, cast_eq]
  rfl

theorem v9_eq : (StableHlo.after (hostOps0_3 (F := F)) W main_v9 : IVec S9 1)
    = cmpi .sgt (W main_v7 : IVec S9 32) (W main_v6 : IVec S9 32) := by
  after_reads_simp

theorem v11_eq : (StableHlo.after (hostOps0_3 (F := F)) W main_v11 : IVec S9 32)
    = subi (W main_v7 : IVec S9 32) (broadcastInDim S9 ![] bcast_S_S9 (constantI S_ 32 1#32) : IVec S9 32) := by
  after_reads_simp

theorem c4_eq : (StableHlo.after (hostOps0_3 (F := F)) W main_c_4 : IVec S_ 32)
    = constantI S_ 32 512#32 := by
  after_reads_simp

theorem v12_eq : (StableHlo.after (hostOps0_4 (F := F)) W main_v12 : IVec S9 32)
    = pyDiv bcast_S_S9 (W main_v11 : IVec S9 32) (W main_c_4 : IVec S_ 32) := by
  after_reads_simp
  simp -implicitDefEqProofs only [StableHlo.TRef.toBuf, StableHlo.TRef.ofBuf, cast_cast, cast_eq]
  rfl

theorem v15_eq : (StableHlo.after (hostOps0_5 (F := F)) W main_v15 : IVec S9 32)
    = addi (subi (W main_v12 : IVec S9 32) (W main_v8 : IVec S9 32)) (broadcastInDim S9 ![] bcast_S_S9 (constantI S_ 32 1#32) : IVec S9 32) := by
  after_reads_simp

theorem c6_eq : (StableHlo.after (hostOps0_5 (F := F)) W main_c_6 : IVec S_ 32)
    = constantI S_ 32 0#32 := by
  after_reads_simp

theorem v16_eq : (StableHlo.after (hostOps0_6 (F := F)) W main_v16 : IVec S9 32)
    = select (W main_v9 : IVec S9 1) (W main_v15 : IVec S9 32) (broadcastInDim S9 ![] bcast_S_S9 (W main_c_6 : IVec S_ 32)) := by
  after_reads_simp
  simp -implicitDefEqProofs only [StableHlo.TRef.toBuf, StableHlo.TRef.ofBuf, cast_cast, cast_eq]
  rfl

theorem v17_eq : (StableHlo.after (hostOps0_7 (F := F)) W main_v17 : IVec S9 32)
    = Host.reduceWindow IntOp.addi ![9] ![1] ![8] ![0] (W main_v16 : IVec S9 32) (broadcastInDim S_ ![] bcast_S_S_ (constantI S_ 32 0#32)) reduceWindows_S9_S9_w9s1p8_0 h_S_ := by
  after_reads_simp
  simp -implicitDefEqProofs only [StableHlo.TRef.toBuf, StableHlo.TRef.ofBuf, cast_cast, cast_eq]

theorem v23_eq : (StableHlo.after (hostOps0_8 (F := F)) W main_v23 : IVec S24 32)
    = extui 32 (cmpi .slt (iotaInDim S24 32 0) (broadcastInDim S24 ![] bcast_S_S24 (shapeCast S_ (extractStridedSlice S1 ![8] (W main_v17 : IVec S9 32) slices_S9_S1_8) shapeCasts_S1_S_ : IVec S_ 32)) : IVec S24 1) natLt_1_32 := by
  after_reads_simp
  rfl

theorem v28_eq : (StableHlo.after (hostOps0_8 (F := F)) W main_v28 : IVec S24 32)
    = minsi (iotaInDim S24 32 0) (broadcastInDim S24 ![] bcast_S_S24 (subi (shapeCast S_ (extractStridedSlice S1 ![8] (W main_v17 : IVec S9 32) slices_S9_S1_8) shapeCasts_S1_S_ : IVec S_ 32) (constantI S_ 32 1#32))) := by
  after_reads_simp
  rfl

theorem v29_eq : (StableHlo.after (hostOps0_9 (F := F)) W main_v29 : IVec S24 32)
    = Host.reduce IntOp.addi (extui 32 (cmpi .sle (broadcastInDim S9x24 ![0, 1] bcast_S9x1_S9x24_0_1 (broadcastInDim S9x1 ![0] bcast_S9_S9x1_0 (W main_v17 : IVec S9 32))) (broadcastInDim S9x24 ![0, 1] bcast_S1x24_S9x24_0_1 (broadcastInDim S1x24 ![1] bcast_S24_S1x24_1 (W main_v28 : IVec S24 32))) : IVec S9x24 1) natLt_1_32) (constantI S_ 32 0#32) reducesTo_S9x24_S24_d0 h_S_ := by
  after_reads_simp
  simp -implicitDefEqProofs only [StableHlo.TRef.toBuf, StableHlo.TRef.ofBuf, cast_cast, cast_eq]

/-- An index word as the gather takes it: a negative one counted from the end, then as a column. -/
abbrev idxCol (g : IVec S24 32) : IVec S24x1 32 :=
  broadcastInDim S24x1 ![0] bcast_S24_S24x1_0 (select (cmpi .slt g (broadcastInDim S24 ![] bcast_S_S24 (constantI S_ 32 0#32))) (addi g (broadcastInDim S24 ![] bcast_S_S24 (constantI S_ 32 9#32))) g)

/-- The take of a nine-entry vector at the groups. -/
abbrev takeOf (x : IVec S9 32) (g : IVec S24 32) : IVec S24 32 := Host.gather gather_S9_S24x1_S24_n_0_n_n_0_1_1 x (idxCol g)

theorem v53_eq : (StableHlo.after (hostOps0_10 (F := F)) W main_v53 : IVec S24 32)
    = subi (addi (takeOf (W main_v8 : IVec S9 32) (W main_v29 : IVec S24 32)) (W main_v28 : IVec S24 32)) (subi (takeOf (W main_v17 : IVec S9 32) (W main_v29 : IVec S24 32)) (takeOf (W main_v16 : IVec S9 32) (W main_v29 : IVec S24 32))) := by
  after_reads_simp

theorem v54_eq : (StableHlo.after (hostOps0_10 (F := F)) W main_v54 : FVec F S8x1x1536 .f32) = shapeCast S8x1x1536 (W main_arg4 : FVec F S8x1536 .f32) shapeCasts_S8x1536_S8x1x1536 := by
  after_reads_simp
  rfl

/-! ## What each stretch leaves alone -/

theorem keep0_main_arg0 : StableHlo.after (hostOps0 (F := F)) W main_arg0 = W main_arg0 := by after_reads_simp

theorem keep0_main_arg1 : StableHlo.after (hostOps0 (F := F)) W main_arg1 = W main_arg1 := by after_reads_simp

theorem keep0_main_arg2 : StableHlo.after (hostOps0 (F := F)) W main_arg2 = W main_arg2 := by after_reads_simp

theorem keep0_main_arg3 : StableHlo.after (hostOps0 (F := F)) W main_arg3 = W main_arg3 := by after_reads_simp

theorem keep0_main_arg4 : StableHlo.after (hostOps0 (F := F)) W main_arg4 = W main_arg4 := by after_reads_simp

theorem keep1_main_arg0 : StableHlo.after (hostOps0_1 (F := F)) W main_arg0 = W main_arg0 := by after_reads_simp

theorem keep1_main_arg1 : StableHlo.after (hostOps0_1 (F := F)) W main_arg1 = W main_arg1 := by after_reads_simp

theorem keep1_main_arg2 : StableHlo.after (hostOps0_1 (F := F)) W main_arg2 = W main_arg2 := by after_reads_simp

theorem keep1_main_arg3 : StableHlo.after (hostOps0_1 (F := F)) W main_arg3 = W main_arg3 := by after_reads_simp

theorem keep1_main_arg4 : StableHlo.after (hostOps0_1 (F := F)) W main_arg4 = W main_arg4 := by after_reads_simp

theorem keep2_main_arg0 : StableHlo.after (hostOps0_2 (F := F)) W main_arg0 = W main_arg0 := by after_reads_simp

theorem keep2_main_arg1 : StableHlo.after (hostOps0_2 (F := F)) W main_arg1 = W main_arg1 := by after_reads_simp

theorem keep2_main_arg2 : StableHlo.after (hostOps0_2 (F := F)) W main_arg2 = W main_arg2 := by after_reads_simp

theorem keep2_main_arg3 : StableHlo.after (hostOps0_2 (F := F)) W main_arg3 = W main_arg3 := by after_reads_simp

theorem keep2_main_arg4 : StableHlo.after (hostOps0_2 (F := F)) W main_arg4 = W main_arg4 := by after_reads_simp

theorem keep2_main_v5 : StableHlo.after (hostOps0_2 (F := F)) W main_v5 = W main_v5 := by after_reads_simp

theorem keep2_main_v6 : StableHlo.after (hostOps0_2 (F := F)) W main_v6 = W main_v6 := by after_reads_simp

theorem keep2_main_v7 : StableHlo.after (hostOps0_2 (F := F)) W main_v7 = W main_v7 := by after_reads_simp

theorem keep3_main_arg0 : StableHlo.after (hostOps0_3 (F := F)) W main_arg0 = W main_arg0 := by after_reads_simp

theorem keep3_main_arg1 : StableHlo.after (hostOps0_3 (F := F)) W main_arg1 = W main_arg1 := by after_reads_simp

theorem keep3_main_arg2 : StableHlo.after (hostOps0_3 (F := F)) W main_arg2 = W main_arg2 := by after_reads_simp

theorem keep3_main_arg3 : StableHlo.after (hostOps0_3 (F := F)) W main_arg3 = W main_arg3 := by after_reads_simp

theorem keep3_main_arg4 : StableHlo.after (hostOps0_3 (F := F)) W main_arg4 = W main_arg4 := by after_reads_simp

theorem keep3_main_v5 : StableHlo.after (hostOps0_3 (F := F)) W main_v5 = W main_v5 := by after_reads_simp

theorem keep3_main_v8 : StableHlo.after (hostOps0_3 (F := F)) W main_v8 = W main_v8 := by after_reads_simp

theorem keep4_main_arg0 : StableHlo.after (hostOps0_4 (F := F)) W main_arg0 = W main_arg0 := by after_reads_simp

theorem keep4_main_arg1 : StableHlo.after (hostOps0_4 (F := F)) W main_arg1 = W main_arg1 := by after_reads_simp

theorem keep4_main_arg2 : StableHlo.after (hostOps0_4 (F := F)) W main_arg2 = W main_arg2 := by after_reads_simp

theorem keep4_main_arg3 : StableHlo.after (hostOps0_4 (F := F)) W main_arg3 = W main_arg3 := by after_reads_simp

theorem keep4_main_arg4 : StableHlo.after (hostOps0_4 (F := F)) W main_arg4 = W main_arg4 := by after_reads_simp

theorem keep4_main_v5 : StableHlo.after (hostOps0_4 (F := F)) W main_v5 = W main_v5 := by after_reads_simp

theorem keep4_main_v8 : StableHlo.after (hostOps0_4 (F := F)) W main_v8 = W main_v8 := by after_reads_simp

theorem keep4_main_v9 : StableHlo.after (hostOps0_4 (F := F)) W main_v9 = W main_v9 := by after_reads_simp

theorem keep5_main_arg0 : StableHlo.after (hostOps0_5 (F := F)) W main_arg0 = W main_arg0 := by after_reads_simp

theorem keep5_main_arg1 : StableHlo.after (hostOps0_5 (F := F)) W main_arg1 = W main_arg1 := by after_reads_simp

theorem keep5_main_arg2 : StableHlo.after (hostOps0_5 (F := F)) W main_arg2 = W main_arg2 := by after_reads_simp

theorem keep5_main_arg3 : StableHlo.after (hostOps0_5 (F := F)) W main_arg3 = W main_arg3 := by after_reads_simp

theorem keep5_main_arg4 : StableHlo.after (hostOps0_5 (F := F)) W main_arg4 = W main_arg4 := by after_reads_simp

theorem keep5_main_v5 : StableHlo.after (hostOps0_5 (F := F)) W main_v5 = W main_v5 := by after_reads_simp

theorem keep5_main_v8 : StableHlo.after (hostOps0_5 (F := F)) W main_v8 = W main_v8 := by after_reads_simp

theorem keep5_main_v9 : StableHlo.after (hostOps0_5 (F := F)) W main_v9 = W main_v9 := by after_reads_simp

theorem keep6_main_arg0 : StableHlo.after (hostOps0_6 (F := F)) W main_arg0 = W main_arg0 := by after_reads_simp

theorem keep6_main_arg1 : StableHlo.after (hostOps0_6 (F := F)) W main_arg1 = W main_arg1 := by after_reads_simp

theorem keep6_main_arg2 : StableHlo.after (hostOps0_6 (F := F)) W main_arg2 = W main_arg2 := by after_reads_simp

theorem keep6_main_arg3 : StableHlo.after (hostOps0_6 (F := F)) W main_arg3 = W main_arg3 := by after_reads_simp

theorem keep6_main_arg4 : StableHlo.after (hostOps0_6 (F := F)) W main_arg4 = W main_arg4 := by after_reads_simp

theorem keep6_main_v5 : StableHlo.after (hostOps0_6 (F := F)) W main_v5 = W main_v5 := by after_reads_simp

theorem keep6_main_v8 : StableHlo.after (hostOps0_6 (F := F)) W main_v8 = W main_v8 := by after_reads_simp

theorem keep7_main_arg0 : StableHlo.after (hostOps0_7 (F := F)) W main_arg0 = W main_arg0 := by after_reads_simp

theorem keep7_main_arg1 : StableHlo.after (hostOps0_7 (F := F)) W main_arg1 = W main_arg1 := by after_reads_simp

theorem keep7_main_arg2 : StableHlo.after (hostOps0_7 (F := F)) W main_arg2 = W main_arg2 := by after_reads_simp

theorem keep7_main_arg3 : StableHlo.after (hostOps0_7 (F := F)) W main_arg3 = W main_arg3 := by after_reads_simp

theorem keep7_main_arg4 : StableHlo.after (hostOps0_7 (F := F)) W main_arg4 = W main_arg4 := by after_reads_simp

theorem keep7_main_v5 : StableHlo.after (hostOps0_7 (F := F)) W main_v5 = W main_v5 := by after_reads_simp

theorem keep7_main_v8 : StableHlo.after (hostOps0_7 (F := F)) W main_v8 = W main_v8 := by after_reads_simp

theorem keep7_main_v16 : StableHlo.after (hostOps0_7 (F := F)) W main_v16 = W main_v16 := by after_reads_simp

theorem keep8_main_arg0 : StableHlo.after (hostOps0_8 (F := F)) W main_arg0 = W main_arg0 := by after_reads_simp

theorem keep8_main_arg1 : StableHlo.after (hostOps0_8 (F := F)) W main_arg1 = W main_arg1 := by after_reads_simp

theorem keep8_main_arg2 : StableHlo.after (hostOps0_8 (F := F)) W main_arg2 = W main_arg2 := by after_reads_simp

theorem keep8_main_arg3 : StableHlo.after (hostOps0_8 (F := F)) W main_arg3 = W main_arg3 := by after_reads_simp

theorem keep8_main_arg4 : StableHlo.after (hostOps0_8 (F := F)) W main_arg4 = W main_arg4 := by after_reads_simp

theorem keep8_main_v5 : StableHlo.after (hostOps0_8 (F := F)) W main_v5 = W main_v5 := by after_reads_simp

theorem keep8_main_v8 : StableHlo.after (hostOps0_8 (F := F)) W main_v8 = W main_v8 := by after_reads_simp

theorem keep8_main_v16 : StableHlo.after (hostOps0_8 (F := F)) W main_v16 = W main_v16 := by after_reads_simp

theorem keep8_main_v17 : StableHlo.after (hostOps0_8 (F := F)) W main_v17 = W main_v17 := by after_reads_simp

theorem keep9_main_arg0 : StableHlo.after (hostOps0_9 (F := F)) W main_arg0 = W main_arg0 := by after_reads_simp

theorem keep9_main_arg1 : StableHlo.after (hostOps0_9 (F := F)) W main_arg1 = W main_arg1 := by after_reads_simp

theorem keep9_main_arg2 : StableHlo.after (hostOps0_9 (F := F)) W main_arg2 = W main_arg2 := by after_reads_simp

theorem keep9_main_arg3 : StableHlo.after (hostOps0_9 (F := F)) W main_arg3 = W main_arg3 := by after_reads_simp

theorem keep9_main_arg4 : StableHlo.after (hostOps0_9 (F := F)) W main_arg4 = W main_arg4 := by after_reads_simp

theorem keep9_main_v5 : StableHlo.after (hostOps0_9 (F := F)) W main_v5 = W main_v5 := by after_reads_simp

theorem keep9_main_v8 : StableHlo.after (hostOps0_9 (F := F)) W main_v8 = W main_v8 := by after_reads_simp

theorem keep9_main_v16 : StableHlo.after (hostOps0_9 (F := F)) W main_v16 = W main_v16 := by after_reads_simp

theorem keep9_main_v17 : StableHlo.after (hostOps0_9 (F := F)) W main_v17 = W main_v17 := by after_reads_simp

theorem keep9_main_v23 : StableHlo.after (hostOps0_9 (F := F)) W main_v23 = W main_v23 := by after_reads_simp

theorem keep9_main_v28 : StableHlo.after (hostOps0_9 (F := F)) W main_v28 = W main_v28 := by after_reads_simp

theorem keep10_main_arg0 : StableHlo.after (hostOps0_10 (F := F)) W main_arg0 = W main_arg0 := by after_reads_simp

theorem keep10_main_arg1 : StableHlo.after (hostOps0_10 (F := F)) W main_arg1 = W main_arg1 := by after_reads_simp

theorem keep10_main_arg2 : StableHlo.after (hostOps0_10 (F := F)) W main_arg2 = W main_arg2 := by after_reads_simp

theorem keep10_main_arg3 : StableHlo.after (hostOps0_10 (F := F)) W main_arg3 = W main_arg3 := by after_reads_simp

theorem keep10_main_arg4 : StableHlo.after (hostOps0_10 (F := F)) W main_arg4 = W main_arg4 := by after_reads_simp

theorem keep10_main_v5 : StableHlo.after (hostOps0_10 (F := F)) W main_v5 = W main_v5 := by after_reads_simp

theorem keep10_main_v23 : StableHlo.after (hostOps0_10 (F := F)) W main_v23 = W main_v23 := by after_reads_simp

theorem keep10_main_v29 : StableHlo.after (hostOps0_10 (F := F)) W main_v29 = W main_v29 := by after_reads_simp

end Cert.Kernel.Stages

end
-- ==== Proof.KTableWords.lean ====
/-
  The words of the four tables, from the group sizes' words: each stage of the host's computation read at an entry as the
  word of a natural number (`Sched.lean`'s offsets, counts and running counts).
-/
module

public import proofs.«01_k».proof.Proof.KStages
public import proofs.«01_k».proof.Proof.Sched

@[expose] public section

noncomputable section

namespace Cert.Kernel.Stages

open Idealize.ShloMosaic Idealize.ShloMosaic.TcCoe Cert.Kernel.Gen Cert.Kernel
open Idealize.ShloMosaic.Routing (shape0 shape1 shape2 pyDiv)
open Cert.Sched

open Facts
attribute [local instance] Cert.Kernel.Gen.facts

theorem minsi_word {a b : Nat} (ha : a < 2 ^ 31) (hb : b < 2 ^ 31) :
    IntOp.minsi (BitVec.ofNat 32 a) (BitVec.ofNat 32 b) = BitVec.ofNat 32 (min a b) := by
  unfold IntOp.minsi
  rw [Routing.slt_ofNat32 ha hb]
  rcases Nat.lt_or_ge a b with h | h
  · rw [if_pos (by simpa using h), Nat.min_eq_left h.le]
  · rw [if_neg (by simpa using h), Nat.min_eq_right h]

theorem sub_word {a b : Nat} (ha : a < 2 ^ 31) (hb : b ≤ a) : BitVec.ofNat 32 a - BitVec.ofNat 32 b = BitVec.ofNat 32 (a - b) := by
  apply BitVec.eq_of_toNat_eq
  simp only [BitVec.toNat_sub, BitVec.toNat_ofNat]
  omega

theorem add_word (a b : Nat) : BitVec.ofNat 32 a + BitVec.ofNat 32 b = BitVec.ofNat 32 (a + b) :=
  (BitVec.ofNat_add a b).symm

theorem slt_word {a b : Nat} (ha : a < 2 ^ 31) (hb : b < 2 ^ 31) :
    IntOp.cmpi .slt (BitVec.ofNat 32 a) (BitVec.ofNat 32 b) = BitVec.ofBool (decide (a < b)) := by
  rw [← Routing.slt_ofNat32 ha hb]; rfl

theorem sle_word {a b : Nat} (ha : a < 2 ^ 31) (hb : b < 2 ^ 31) :
    IntOp.cmpi .sle (BitVec.ofNat 32 a) (BitVec.ofNat 32 b) = BitVec.ofBool (decide (a ≤ b)) := by
  rw [← Routing.sle_ofNat32 ha hb]; rfl

theorem sgt_word {a b : Nat} (ha : a < 2 ^ 31) (hb : b < 2 ^ 31) :
    IntOp.cmpi .sgt (BitVec.ofNat 32 a) (BitVec.ofNat 32 b) = BitVec.ofBool (decide (b < a)) := by
  rw [← Routing.slt_ofNat32 hb ha]; rfl

/-- The running sum of the sizes. -/
def run (n : ℕ → ℕ) (g : ℕ) : ℕ := ((List.range g).map n).sum

theorem run_succ (n : ℕ → ℕ) (g : ℕ) : run n (g + 1) = run n g + n g := by
  unfold run
  rw [List.range_succ, List.map_append, List.sum_append]
  simp

/-- The offsets of the sizes `n`, cut at the number of rows; past the eighth group the rest. -/
def offs (n : ℕ → ℕ) (g : ℕ) : ℕ := if g = 9 then 8192 else min (run n g) 8192

theorem offs_le (n : ℕ → ℕ) (g : ℕ) : offs n g ≤ 8192 := by
  unfold offs
  split <;> omega

theorem offs_Offs (n : ℕ → ℕ) : Offs (offs n) where
  zero := by simp [offs, run]
  mono g hg := by
    unfold offs
    rw [run_succ]
    split <;> split <;> omega
  last := by simp [offs]

theorem run_lt (n : ℕ → ℕ) (hn : ∀ i, i < 8 → n i < 2 ^ 28) : ∀ g, g ≤ 8 → run n g ≤ g * (2 ^ 28 - 1) := by
  intro g
  induction g with
  | zero => intro _; simp [run]
  | succ g ih =>
    intro hg
    rw [run_succ]
    have := ih (by omega)
    have := hn g (by omega)
    omega

theorem cum_eq (e : ℕ → ℕ) (g : ℕ) : ((List.range g).map (cnt e)).sum = cum e g := by
  induction g with
  | zero => rfl
  | succ g ih =>
    rw [List.range_succ, List.map_append, List.sum_append, ih]
    simp [cum]

/-! ## The stages -/

section
variable (n : ℕ → ℕ)

theorem run_at (hn : ∀ i, i < 8 → n i < 2 ^ 28) (gs : IVec S8 32) (hg : ∀ i : Fin 8, gs (ValueIdx.ix1 i) = BitVec.ofNat 32 (n i.val)) (j : Fin 8) :
    (Host.reduceWindow IntOp.addi ![8] ![1] ![7] ![0] gs (broadcastInDim S_ ![] bcast_S_S_ (constantI S_ 32 0#32)) reduceWindows_S8_S8_w8s1p7_0 h_S_ : IVec S8 32) (ValueIdx.ix1 j)
      = BitVec.ofNat 32 (run n (j.val + 1)) :=
  Routing.cumsum1 (N := 8) (Nm1 := 7) rfl gs n hg _ rfl _ _ j

theorem off_at (hn : ∀ i, i < 8 → n i < 2 ^ 28) (v0 : IVec S8 32) (hv : ∀ j : Fin 8, v0 (ValueIdx.ix1 j) = BitVec.ofNat 32 (run n (j.val + 1))) (j : Fin 10) :
    offsOf v0 (ValueIdx.ix1 j) = BitVec.ofNat 32 (offs n j.val) := by
  have hmin : ∀ j : Fin 8, IntOp.minsi (v0 (ValueIdx.ix1 j)) 8192#32 = BitVec.ofNat 32 (offs n (j.val + 1)) := by
    intro j
    have h1 := run_lt n hn (j.val + 1) (by omega)
    have h2 : ¬ j.val + 1 = 9 := by omega
    rw [hv, minsi_word (by omega) (by decide), offs, if_neg h2]
  have h0 : offs n 0 = 0 := (offs_Offs n).zero
  have h9 : offs n 9 = 8192 := (offs_Offs n).last
  have piece := fun (k : ℕ) (hk : k < 3) (m : ℕ) (x : (⟨1, ![m]⟩ : Shape).Idx → BitVec 32) hx (pre : ℕ) hpre (i : Fin m) (hi : pre + i.val = j.val) =>
    concatenate_apply_piece (t := S10) 0
      [⟨S1, (broadcastInDim S1 ![] bcast_S_S1 (constantI S_ 32 0#32) : IVec S1 32)⟩,
        ⟨S8, (minsi v0 (broadcastInDim S8 ![] bcast_S_S8 (constantI S_ 32 8192#32)) : IVec S8 32)⟩,
        ⟨S1, (broadcastInDim S1 ![] bcast_S_S1 (constantI S_ 32 8192#32) : IVec S1 32)⟩] concatenates_S1_S8_S1_S10_d0
      (ValueIdx.ix1 j) k hk ⟨1, ![m]⟩ x hx rfl pre hpre (ValueIdx.ix1 i) (fun b hb => absurd (Subsingleton.elim (α := Fin 1) _ _) hb) hi
  unfold offsOf
  rcases Nat.eq_zero_or_pos j.val with hj | hj
  · rw [hj, h0]
    exact (piece 0 (by omega) 1 _ rfl 0 rfl 0 hj.symm).trans rfl
  · rcases Nat.lt_or_ge j.val 9 with hj9 | hj9
    · refine (piece 1 (by omega) 8 _ rfl 1 rfl ⟨j.val - 1, by omega⟩ (by show 1 + (j.val - 1) = _; omega)).trans ?_
      refine (hmin ⟨j.val - 1, by omega⟩).trans ?_
      show BitVec.ofNat 32 (offs n (j.val - 1 + 1)) = _
      rw [Nat.sub_add_cancel hj]
    · have hj' : j.val = 9 := by omega
      rw [hj', h9]
      exact (piece 2 (by omega) 1 _ rfl 9 rfl 0 hj'.symm).trans rfl

variable (v5 : IVec S10 32)

theorem lo_at (h5 : ∀ j : Fin 10, v5 (ValueIdx.ix1 j) = BitVec.ofNat 32 (offs n j.val)) (j : Fin 9) :
    extractStridedSlice S9 ![0] v5 slices_S10_S9_0 (ValueIdx.ix1 j) = BitVec.ofNat 32 (offs n j.val) := by
  refine (Routing.slice1 (m := 10) (n := 9) 0 v5 _ j (by omega)).trans ((h5 _).trans ?_)
  simp only [Nat.zero_add]

theorem hi_at (h5 : ∀ j : Fin 10, v5 (ValueIdx.ix1 j) = BitVec.ofNat 32 (offs n j.val)) (j : Fin 9) :
    extractStridedSlice S9 ![1] v5 slices_S10_S9_1 (ValueIdx.ix1 j) = BitVec.ofNat 32 (offs n (j.val + 1)) := by
  refine (Routing.slice1 (m := 10) (n := 9) 1 v5 _ j (by omega)).trans ((h5 _).trans ?_)
  simp only [Nat.add_comm]

theorem div_at (v : IVec S9 32) (c : IVec S_ 32) (hc : c = constantI S_ 32 512#32) (j : Fin 9) {a : ℕ} (ha : a < 2 ^ 31)
    (hv : v (ValueIdx.ix1 j) = BitVec.ofNat 32 a) : pyDiv bcast_S_S9 v c (ValueIdx.ix1 j) = BitVec.ofNat 32 (a / 512) :=
  Routing.pyDiv_ap _ v c (ValueIdx.ix1 j) hv (by rw [hc]; rfl) ha (by decide) (by decide)

theorem bit_eq {p : Prop} [Decidable p] : BitVec.ofBool (decide p) = 1#1 ↔ p := by
  by_cases h : p <;> simp [h]

/-- How many tiles each group meets. -/
theorem cnt_at (v6 v7 v8 v12 : IVec S9 32) (h6 : ∀ j : Fin 9, v6 (ValueIdx.ix1 j) = BitVec.ofNat 32 (offs n j.val))
    (h7 : ∀ j : Fin 9, v7 (ValueIdx.ix1 j) = BitVec.ofNat 32 (offs n (j.val + 1)))
    (h8 : ∀ j : Fin 9, v8 (ValueIdx.ix1 j) = BitVec.ofNat 32 (offs n j.val / 512))
    (h12 : v12 = pyDiv bcast_S_S9 (subi v7 (broadcastInDim S9 ![] bcast_S_S9 (constantI S_ 32 1#32))) (constantI S_ 32 512#32))
    (j : Fin 9) :
    select (cmpi .sgt v7 v6) (addi (subi v12 v8) (broadcastInDim S9 ![] bcast_S_S9 (constantI S_ 32 1#32)))
        (broadcastInDim S9 ![] bcast_S_S9 (constantI S_ 32 0#32)) (ValueIdx.ix1 j)
      = BitVec.ofNat 32 (cnt (offs n) j.val) := by
  have b1 := offs_le n j.val
  have b2 := offs_le n (j.val + 1)
  show (if IntOp.cmpi .sgt (v7 (ValueIdx.ix1 j)) (v6 (ValueIdx.ix1 j)) = 1#1 then v12 (ValueIdx.ix1 j) - v8 (ValueIdx.ix1 j) + 1#32 else 0#32) = _
  rw [h6, h7, h8, sgt_word (by omega) (by omega)]
  by_cases h : offs n j.val < offs n (j.val + 1)
  · rw [if_pos (bit_eq.2 h), cnt_pos h]
    have : v12 (ValueIdx.ix1 j) = BitVec.ofNat 32 ((offs n (j.val + 1) - 1) / 512) := by
      rw [h12]
      refine div_at _ _ rfl j (by omega) ?_
      show v7 (ValueIdx.ix1 j) - 1#32 = _
      rw [h7]
      exact sub_word (b := 1) (by omega) (by omega)
    rw [this, sub_word (by omega) (by omega)]
    exact add_word _ 1
  · rw [if_neg (fun hh => h (bit_eq.1 hh)), cnt_zero h]

theorem cum_at (v16 : IVec S9 32) (h16 : ∀ j : Fin 9, v16 (ValueIdx.ix1 j) = BitVec.ofNat 32 (cnt (offs n) j.val)) (j : Fin 9) :
    (Host.reduceWindow IntOp.addi ![9] ![1] ![8] ![0] v16 (broadcastInDim S_ ![] bcast_S_S_ (constantI S_ 32 0#32)) reduceWindows_S9_S9_w9s1p8_0 h_S_ : IVec S9 32) (ValueIdx.ix1 j)
      = BitVec.ofNat 32 (cum (offs n) (j.val + 1)) := by
  rw [← cum_eq]
  exact Routing.cumsum1 (N := 9) (Nm1 := 8) rfl v16 (cnt (offs n)) h16 _ rfl _ _ j

/-- The total number of items, as the host takes it out of the running counts. -/
theorem tot_at (v17 : IVec S9 32) (h17 : ∀ j : Fin 9, v17 (ValueIdx.ix1 j) = BitVec.ofNat 32 (cum (offs n) (j.val + 1))) :
    (shapeCast S_ (extractStridedSlice S1 ![8] v17 slices_S9_S1_8) shapeCasts_S1_S_ : IVec S_ 32) ValueIdx.ix0 = BitVec.ofNat 32 (cum (offs n) 9) := by
  have h : ∀ i : S1.Idx, extractStridedSlice S1 ![8] v17 slices_S9_S1_8 i = v17 (ValueIdx.ix1 8) := by
    intro i
    have hi : i = ValueIdx.ix1 (0 : Fin 1) := funext fun a => match a with | ⟨0, _⟩ => Subsingleton.elim (α := Fin 1) _ _
    rw [hi]
    exact Routing.slice1 (m := 9) (n := 1) 8 v17 _ 0 (by decide)
  exact (h _).trans (h17 8)

theorem cum_lt (g : ℕ) (hg : g ≤ 9) : cum (offs n) g ≤ 24 :=
  (cum_le hg).trans (offs_Offs n).cum_nine.2

theorem valid_at (v17 : IVec S9 32) (h17 : ∀ j : Fin 9, v17 (ValueIdx.ix1 j) = BitVec.ofNat 32 (cum (offs n) (j.val + 1))) (w : Fin 24) :
    (extui 32 (cmpi .slt (iotaInDim S24 32 0) (broadcastInDim S24 ![] bcast_S_S24
        (shapeCast S_ (extractStridedSlice S1 ![8] v17 slices_S9_S1_8) shapeCasts_S1_S_ : IVec S_ 32)) : IVec S24 1) natLt_1_32 : IVec S24 32) (ValueIdx.ix1 w)
      = BitVec.ofNat 32 (if w.val < cum (offs n) 9 then 1 else 0) := by
  have h1 := cum_lt n 9 le_rfl
  show BitVec.setWidth 32 (IntOp.cmpi .slt (BitVec.ofNat 32 w.val) (broadcastInDim S24 ![] bcast_S_S24
        (shapeCast S_ (extractStridedSlice S1 ![8] v17 slices_S9_S1_8) shapeCasts_S1_S_ : IVec S_ 32) (ValueIdx.ix1 w))) = _
  rw [Routing.bc0, tot_at n v17 h17, slt_word (by omega) (by omega)]
  exact Routing.setWidth_ofBool _

theorem item_at (v17 : IVec S9 32) (h17 : ∀ j : Fin 9, v17 (ValueIdx.ix1 j) = BitVec.ofNat 32 (cum (offs n) (j.val + 1))) (w : Fin 24) :
    (minsi (iotaInDim S24 32 0) (broadcastInDim S24 ![] bcast_S_S24 (subi
        (shapeCast S_ (extractStridedSlice S1 ![8] v17 slices_S9_S1_8) shapeCasts_S1_S_ : IVec S_ 32) (constantI S_ 32 1#32))) : IVec S24 32) (ValueIdx.ix1 w)
      = BitVec.ofNat 32 (min w.val (cum (offs n) 9 - 1)) := by
  have h1 := cum_lt n 9 le_rfl
  have h2 := (offs_Offs n).cum_nine
  show IntOp.minsi (BitVec.ofNat 32 w.val) (broadcastInDim S24 ![] bcast_S_S24 (subi
        (shapeCast S_ (extractStridedSlice S1 ![8] v17 slices_S9_S1_8) shapeCasts_S1_S_ : IVec S_ 32) (constantI S_ 32 1#32)) (ValueIdx.ix1 w)) = _
  rw [Routing.bc0]
  show IntOp.minsi _ ((shapeCast S_ (extractStridedSlice S1 ![8] v17 slices_S9_S1_8) shapeCasts_S1_S_ : IVec S_ 32) ValueIdx.ix0 - 1#32) = _
  rw [tot_at n v17 h17]
  rw [show BitVec.ofNat 32 (cum (offs n) 9) - 1#32 = BitVec.ofNat 32 (cum (offs n) 9 - 1) from sub_word (b := 1) (by omega) (by omega)]
  exact minsi_word (by omega) (by omega)

/-- The group of point `w`. -/
def G (w : ℕ) : ℕ := countLe (offs n) (min w (cum (offs n) 9 - 1))

/-- The tile of point `w`. -/
def T (w : ℕ) : ℕ := offs n (G n w) / 512 + min w (cum (offs n) 9 - 1) - cum (offs n) (G n w)

theorem sched : Sched (offs n) (G n) (T n) where
  offs := offs_Offs n
  item t _ := by
    have h2 := (offs_Offs n).cum_nine
    have h := item_countLe (e := offs n) (k := min t (cum (offs n) 9 - 1)) (by omega)
    exact ⟨h.1, h.2.1, h.2.2, rfl⟩

theorem group_at (v17 : IVec S9 32) (h17 : ∀ j : Fin 9, v17 (ValueIdx.ix1 j) = BitVec.ofNat 32 (cum (offs n) (j.val + 1)))
    (v28 : IVec S24 32) (h28 : ∀ w : Fin 24, v28 (ValueIdx.ix1 w) = BitVec.ofNat 32 (min w.val (cum (offs n) 9 - 1))) (w : Fin 24) :
    (Host.reduce IntOp.addi (extui 32 (cmpi .sle (broadcastInDim S9x24 ![0, 1] bcast_S9x1_S9x24_0_1 (broadcastInDim S9x1 ![0] bcast_S9_S9x1_0 v17))
        (broadcastInDim S9x24 ![0, 1] bcast_S1x24_S9x24_0_1 (broadcastInDim S1x24 ![1] bcast_S24_S1x24_1 v28)) : IVec S9x24 1) natLt_1_32)
      (constantI S_ 32 0#32) reducesTo_S9x24_S24_d0 h_S_ : IVec S24 32) (ValueIdx.ix1 w) = BitVec.ofNat 32 (G n w.val) := by
  apply BitVec.eq_of_toNat_eq
  have hG : G n w.val < 9 := (sched n).group_lt w.isLt
  rw [StableHlo.Predicate.toNat_reduce_count_rows (n := 9) (m := 24) (by decide), BitVec.toNat_ofNat, Nat.mod_eq_of_lt (by omega)]
  unfold G countLe
  rw [← Finset.card_filter]
  refine congrArg Finset.card (Finset.filter_congr fun p _ => ?_)
  change cmpi _ _ _ (StableHlo.Predicate.ij p w) = 1#1 ↔ _
  rw [Routing.ij_eq_ix2]
  show IntOp.cmpi .sle (broadcastInDim S9x24 ![0, 1] bcast_S9x1_S9x24_0_1 (broadcastInDim S9x1 ![0] bcast_S9_S9x1_0 v17) (ValueIdx.ix2 p w))
    (broadcastInDim S9x24 ![0, 1] bcast_S1x24_S9x24_0_1 (broadcastInDim S1x24 ![1] bcast_S24_S1x24_1 v28) (ValueIdx.ix2 p w)) = 1#1 ↔ _
  have e1 : broadcastInDim S9x24 ![0, 1] bcast_S9x1_S9x24_0_1 (broadcastInDim S9x1 ![0] bcast_S9_S9x1_0 v17) (ValueIdx.ix2 p w) = v17 (ValueIdx.ix1 p) :=
    Routing.bcRows (n := 9) (m := 24) _ _ v17 p w
  have e2 : broadcastInDim S9x24 ![0, 1] bcast_S1x24_S9x24_0_1 (broadcastInDim S1x24 ![1] bcast_S24_S1x24_1 v28) (ValueIdx.ix2 p w) = v28 (ValueIdx.ix1 w) :=
    Routing.bcCols (n := 9) (m := 24) _ _ v28 p w
  have b1 := cum_lt n (p.val + 1) (by omega)
  have b2 := cum_lt n 9 le_rfl
  rw [e1, e2, h17, h28, sle_word (by omega) (by omega)]
  exact bit_eq

theorem take_at (x : IVec S9 32) (g : IVec S24 32) (hg : ∀ w : Fin 24, g (ValueIdx.ix1 w) = BitVec.ofNat 32 (G n w.val)) (w : Fin 24) :
    takeOf x g (ValueIdx.ix1 w) = x (ValueIdx.ix1 ⟨G n w.val, (sched n).group_lt w.isLt⟩) := by
  have hG : G n w.val < 9 := (sched n).group_lt w.isLt
  refine Routing.gather_take1 (N := 9) (n := 24) _ rfl rfl rfl rfl x (idxCol g) w ⟨G n w.val, hG⟩ ?_ (by decide)
  unfold idxCol
  refine (Routing.bcCol (n := 24) _ _ w).trans ?_
  show (if IntOp.cmpi .slt (g (ValueIdx.ix1 w)) 0#32 = 1#1 then g (ValueIdx.ix1 w) + 9#32 else g (ValueIdx.ix1 w)) = BitVec.ofNat 32 (G n w.val)
  rw [hg, show IntOp.cmpi .slt (BitVec.ofNat 32 (G n w.val)) 0#32 = _ from slt_word (b := 0) (by omega) (by decide), if_neg]
  simp

theorem tile_at (v8 v16 v17 : IVec S9 32) (v28 v29 : IVec S24 32) (h8 : ∀ j : Fin 9, v8 (ValueIdx.ix1 j) = BitVec.ofNat 32 (offs n j.val / 512))
    (h16 : ∀ j : Fin 9, v16 (ValueIdx.ix1 j) = BitVec.ofNat 32 (cnt (offs n) j.val))
    (h17 : ∀ j : Fin 9, v17 (ValueIdx.ix1 j) = BitVec.ofNat 32 (cum (offs n) (j.val + 1)))
    (h28 : ∀ w : Fin 24, v28 (ValueIdx.ix1 w) = BitVec.ofNat 32 (min w.val (cum (offs n) 9 - 1)))
    (h29 : ∀ w : Fin 24, v29 (ValueIdx.ix1 w) = BitVec.ofNat 32 (G n w.val)) (w : Fin 24) :
    subi (addi (takeOf v8 v29) v28) (subi (takeOf v17 v29) (takeOf v16 v29)) (ValueIdx.ix1 w) = BitVec.ofNat 32 (T n w.val) := by
  show (takeOf v8 v29 (ValueIdx.ix1 w) + v28 (ValueIdx.ix1 w)) - (takeOf v17 v29 (ValueIdx.ix1 w) - takeOf v16 v29 (ValueIdx.ix1 w)) = _
  rw [take_at n v8 v29 h29, take_at n v17 v29 h29, take_at n v16 v29 h29, h8, h16, h17, h28]
  dsimp only
  have hi := (sched n).item w.val w.isLt
  have h1 : cum (offs n) (G n w.val + 1) = cum (offs n) (G n w.val) + cnt (offs n) (G n w.val) := rfl
  have h2 := cum_lt n (G n w.val + 1) hi.g_lt
  have h3 := offs_le n (G n w.val)
  have h4 := hi.lo
  have h5 := cum_lt n 9 le_rfl
  rw [add_word, sub_word (by omega) (by omega), sub_word (by omega) (by omega)]
  unfold T
  refine congrArg (BitVec.ofNat 32) ?_
  omega

end

end Cert.Kernel.Stages

end
-- ==== Proof.KTables.lean ====
/-
  What the buffers hold when the kernel is launched: the four tables at their entries, the weight scales in their reshaped
  form, the arguments untouched.
-/
module

public import proofs.«01_k».proof.Proof.KTableWords

@[expose] public section

noncomputable section

namespace Cert.Kernel.Stages

open Idealize.ShloMosaic Idealize.ShloMosaic.TcCoe Cert.Kernel.Gen Cert.Kernel
open Cert.Sched

open Facts
attribute [local instance] Cert.Kernel.Gen.facts

variable {F : FTy → Type} [FloatOps F]

/-- The host's lines before the launch. -/
abbrev opss : List (List (HloOp τ sig (Elt F))) :=
  [hostOps0, hostOps0_1, hostOps0_2, hostOps0_3, hostOps0_4, hostOps0_5, hostOps0_6, hostOps0_7, hostOps0_8, hostOps0_9, hostOps0_10]

/-- The contents after them. -/
def atLaunch (W : Idealize.ShloMosaic.Valuation τ sig (Elt F)) : Idealize.ShloMosaic.Valuation τ sig (Elt F) :=
  StableHlo.after (opss (F := F)).flatten W

theorem atLaunch_eq (W : Idealize.ShloMosaic.Valuation τ sig (Elt F)) :
    atLaunch W = StableHlo.after hostOps0_10 (StableHlo.after hostOps0_9 (StableHlo.after hostOps0_8 (StableHlo.after hostOps0_7
      (StableHlo.after hostOps0_6 (StableHlo.after hostOps0_5 (StableHlo.after hostOps0_4 (StableHlo.after hostOps0_3
        (StableHlo.after hostOps0_2 (StableHlo.after hostOps0_1 (StableHlo.after hostOps0 W)))))))))) := by
  unfold atLaunch opss
  rw [List.flatten_cons, StableHlo.after_append, List.flatten_cons, StableHlo.after_append, List.flatten_cons, StableHlo.after_append,
    List.flatten_cons, StableHlo.after_append, List.flatten_cons, StableHlo.after_append, List.flatten_cons, StableHlo.after_append,
    List.flatten_cons, StableHlo.after_append, List.flatten_cons, StableHlo.after_append, List.flatten_cons, StableHlo.after_append,
    List.flatten_cons, StableHlo.after_append, List.flatten_cons, StableHlo.after_append, List.flatten_nil, StableHlo.after_nil]

variable (W : Idealize.ShloMosaic.Valuation τ sig (Elt F))

theorem launch_main_arg0 : atLaunch W main_arg0 = W main_arg0 := by
  rw [atLaunch_eq, keep10_main_arg0, keep9_main_arg0, keep8_main_arg0, keep7_main_arg0, keep6_main_arg0, keep5_main_arg0, keep4_main_arg0, keep3_main_arg0, keep2_main_arg0, keep1_main_arg0, keep0_main_arg0]

theorem launch_main_arg1 : atLaunch W main_arg1 = W main_arg1 := by
  rw [atLaunch_eq, keep10_main_arg1, keep9_main_arg1, keep8_main_arg1, keep7_main_arg1, keep6_main_arg1, keep5_main_arg1, keep4_main_arg1, keep3_main_arg1, keep2_main_arg1, keep1_main_arg1, keep0_main_arg1]

theorem launch_main_arg2 : atLaunch W main_arg2 = W main_arg2 := by
  rw [atLaunch_eq, keep10_main_arg2, keep9_main_arg2, keep8_main_arg2, keep7_main_arg2, keep6_main_arg2, keep5_main_arg2, keep4_main_arg2, keep3_main_arg2, keep2_main_arg2, keep1_main_arg2, keep0_main_arg2]

theorem launch_main_arg3 : atLaunch W main_arg3 = W main_arg3 := by
  rw [atLaunch_eq, keep10_main_arg3, keep9_main_arg3, keep8_main_arg3, keep7_main_arg3, keep6_main_arg3, keep5_main_arg3, keep4_main_arg3, keep3_main_arg3, keep2_main_arg3, keep1_main_arg3, keep0_main_arg3]

theorem launch_main_arg4 : atLaunch W main_arg4 = W main_arg4 := by
  rw [atLaunch_eq, keep10_main_arg4, keep9_main_arg4, keep8_main_arg4, keep7_main_arg4, keep6_main_arg4, keep5_main_arg4, keep4_main_arg4, keep3_main_arg4, keep2_main_arg4, keep1_main_arg4, keep0_main_arg4]

theorem launch_v54 : (atLaunch W main_v54 : FVec F S8x1x1536 .f32) = shapeCast S8x1x1536 (W main_arg4 : FVec F S8x1536 .f32) shapeCasts_S8x1536_S8x1x1536 := by
  rw [atLaunch_eq, v54_eq, keep9_main_arg4, keep8_main_arg4, keep7_main_arg4, keep6_main_arg4, keep5_main_arg4, keep4_main_arg4, keep3_main_arg4,
    keep2_main_arg4, keep1_main_arg4, keep0_main_arg4]

/-- The group sizes are the words of `n`, each below `2 ^ 28`. -/
structure Sizes (n : ℕ → ℕ) (gs : IVec S8 32) : Prop where
  lt : ∀ i, i < 8 → n i < 2 ^ 28
  val : ∀ i : Fin 8, gs (ValueIdx.ix1 i) = BitVec.ofNat 32 (n i.val)

variable (n : ℕ → ℕ) (hs : Sizes n (W main_arg2 : IVec S8 32))
include hs

theorem stage_v5 (j : Fin 10) : offsOf (StableHlo.after (hostOps0 (F := F)) W main_v0 : IVec S8 32) (ValueIdx.ix1 j) = BitVec.ofNat 32 (offs n j.val) := by
  refine off_at n hs.lt _ (fun j => ?_) j
  rw [v0_eq]
  exact run_at n hs.lt _ hs.val j

/-- The facts at launch, together: the offsets, and each stage the tables are computed from. -/
theorem launch_all :
    (∀ j : Fin 10, (atLaunch W main_v5 : IVec S10 32) (ValueIdx.ix1 j) = BitVec.ofNat 32 (offs n j.val))
    ∧ (∀ w : Fin 24, (atLaunch W main_v53 : IVec S24 32) (ValueIdx.ix1 w) = BitVec.ofNat 32 (T n w.val))
    ∧ (∀ w : Fin 24, (atLaunch W main_v29 : IVec S24 32) (ValueIdx.ix1 w) = BitVec.ofNat 32 (G n w.val))
    ∧ (∀ w : Fin 24, (atLaunch W main_v23 : IVec S24 32) (ValueIdx.ix1 w) = BitVec.ofNat 32 (if w.val < cum (offs n) 9 then 1 else 0)) := by
  rw [atLaunch_eq]
  have h5 := stage_v5 W n hs
  generalize hW0 : StableHlo.after (hostOps0 (F := F)) W = W0 at h5 ⊢
  -- the offsets and their two slices
  have a5 : (StableHlo.after (hostOps0_1 (F := F)) W0 main_v5 : IVec S10 32) = offsOf (W0 main_v0 : IVec S8 32) := v5_eq W0
  have a6 := fun j => (congrFun (v6_eq W0) (ValueIdx.ix1 j)).trans (lo_at n _ h5 j)
  have a7 := fun j => (congrFun (v7_eq W0) (ValueIdx.ix1 j)).trans (hi_at n _ h5 j)
  have ac2 := c2_eq W0
  have b5 : ∀ j : Fin 10, (StableHlo.after (hostOps0_1 (F := F)) W0 main_v5 : IVec S10 32) (ValueIdx.ix1 j) = BitVec.ofNat 32 (offs n j.val) :=
    fun j => (congrFun a5 _).trans (h5 j)
  clear a5 h5
  generalize StableHlo.after (hostOps0_1 (F := F)) W0 = W1 at *
  clear hW0
  -- the first tile of each group
  have c8 : ∀ j : Fin 9, (StableHlo.after (hostOps0_2 (F := F)) W1 main_v8 : IVec S9 32) (ValueIdx.ix1 j) = BitVec.ofNat 32 (offs n j.val / 512) :=
    fun j => (congrFun (v8_eq W1) _).trans (div_at _ _ ac2 j (by have := offs_le n j.val; omega) (a6 j))
  have c5 := fun j => (congrFun (keep2_main_v5 W1) _).trans (b5 j)
  have c6 := fun j => (congrFun (keep2_main_v6 W1) _).trans (a6 j)
  have c7 := fun j => (congrFun (keep2_main_v7 W1) _).trans (a7 j)
  clear a6 a7 ac2 b5
  generalize StableHlo.after (hostOps0_2 (F := F)) W1 = W2 at *
  -- whether a group has rows, and its last row
  have d9 := v9_eq W2
  have d11 := v11_eq W2
  have dc4 := c4_eq W2
  have d5 := fun j => (congrFun (keep3_main_v5 W2) _).trans (c5 j)
  have d8 := fun j => (congrFun (keep3_main_v8 W2) _).trans (c8 j)
  clear c5 c8
  generalize StableHlo.after (hostOps0_3 (F := F)) W2 = W3 at *
  have e12 := v12_eq W3
  rw [d11, dc4] at e12
  have e9 := (keep4_main_v9 W3).trans d9
  have e5 := fun j => (congrFun (keep4_main_v5 W3) _).trans (d5 j)
  have e8 := fun j => (congrFun (keep4_main_v8 W3) _).trans (d8 j)
  clear d5 d8 d9 d11 dc4
  generalize StableHlo.after (hostOps0_4 (F := F)) W3 = W4 at *
  have f15 := v15_eq W4
  have fc6 := c6_eq W4
  have f9 := (keep5_main_v9 W4).trans e9
  have f5 := fun j => (congrFun (keep5_main_v5 W4) _).trans (e5 j)
  have f8 := fun j => (congrFun (keep5_main_v8 W4) _).trans (e8 j)
  clear e5 e9
  generalize StableHlo.after (hostOps0_5 (F := F)) W4 = W5 at *
  -- the tiles each group meets
  have g16 : ∀ j : Fin 9, (StableHlo.after (hostOps0_6 (F := F)) W5 main_v16 : IVec S9 32) (ValueIdx.ix1 j) = BitVec.ofNat 32 (cnt (offs n) j.val) := by
    intro j
    refine (congrFun (v16_eq W5) _).trans ?_
    rw [f9, f15, fc6]
    exact cnt_at n _ _ _ _ c6 c7 e8 e12 j
  have g5 := fun j => (congrFun (keep6_main_v5 W5) _).trans (f5 j)
  have g8 := fun j => (congrFun (keep6_main_v8 W5) _).trans (f8 j)
  clear f15 fc6 f9 f5 f8 e12 e8 c6 c7
  generalize StableHlo.after (hostOps0_6 (F := F)) W5 = W6 at *
  -- their running sum
  have h17 : ∀ j : Fin 9, (StableHlo.after (hostOps0_7 (F := F)) W6 main_v17 : IVec S9 32) (ValueIdx.ix1 j) = BitVec.ofNat 32 (cum (offs n) (j.val + 1)) :=
    fun j => (congrFun (v17_eq W6) _).trans (cum_at n _ g16 j)
  have h16 := fun j => (congrFun (keep7_main_v16 W6) _).trans (g16 j)
  have h5 := fun j => (congrFun (keep7_main_v5 W6) _).trans (g5 j)
  have h8 := fun j => (congrFun (keep7_main_v8 W6) _).trans (g8 j)
  clear g16 g5 g8
  generalize StableHlo.after (hostOps0_7 (F := F)) W6 = W7 at *
  -- which points are valid, and the item of each
  have i23 := fun w => (congrFun (v23_eq W7) _).trans (valid_at n _ h17 w)
  have i28 := fun w => (congrFun (v28_eq W7) _).trans (item_at n _ h17 w)
  have i17 := fun j => (congrFun (keep8_main_v17 W7) _).trans (h17 j)
  have i16 := fun j => (congrFun (keep8_main_v16 W7) _).trans (h16 j)
  have i5 := fun j => (congrFun (keep8_main_v5 W7) _).trans (h5 j)
  have i8 := fun j => (congrFun (keep8_main_v8 W7) _).trans (h8 j)
  clear h17 h16 h5 h8
  generalize StableHlo.after (hostOps0_8 (F := F)) W7 = W8 at *
  -- the group of each point
  have j29 := fun w => (congrFun (v29_eq W8) _).trans (group_at n _ i17 _ i28 w)
  have j23 := fun j => (congrFun (keep9_main_v23 W8) _).trans (i23 j)
  have j28 := fun j => (congrFun (keep9_main_v28 W8) _).trans (i28 j)
  have j17 := fun j => (congrFun (keep9_main_v17 W8) _).trans (i17 j)
  have j16 := fun j => (congrFun (keep9_main_v16 W8) _).trans (i16 j)
  have j5 := fun j => (congrFun (keep9_main_v5 W8) _).trans (i5 j)
  have j8 := fun j => (congrFun (keep9_main_v8 W8) _).trans (i8 j)
  clear i23 i28 i17 i16 i5 i8
  generalize StableHlo.after (hostOps0_9 (F := F)) W8 = W9 at *
  exact ⟨fun j => (congrFun (keep10_main_v5 W9) _).trans (j5 j),
    fun w => (congrFun (v53_eq W9) _).trans (tile_at n _ _ _ _ _ j8 j16 j17 j28 j29 w),
    fun w => (congrFun (keep10_main_v29 W9) _).trans (j29 w), fun w => (congrFun (keep10_main_v23 W9) _).trans (j23 w)⟩

end Cert.Kernel.Stages

end
-- ==== Proof.KBody.lean ====
/-
  THE BODY at one grid point: on whole staging buffers and with the four tables readable, it ends with the inputs and the tables as they
  were and the output block at `bodyOut`.
-/
module

public import proofs.«01_k».proof.Proof.KTables
public import proofs.«01_k».proof.Proof.Gen.Kernel.Skeleton
public import Idealize.ShloMosaic.Lib.Pipeline.Frame
public import Idealize.ShloMosaic.Lib.Pipeline.FrameBody
public import Idealize.ShloMosaic.Lib.Tactic
public import Idealize.ShloMosaic.Lib.VecWindow

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Facts
attribute [local instance] Cert.Kernel.Gen.facts

variable {F : FTy → Type} [FloatOps F]

local notation "𝕄" => MT nD τ sig Unit (Elt F) ℕ (UR sig nD τ) ℕ

/-- A table's buffer at a share, behind its memref's view. -/
abbrev tblPt (c : Dev nD) (q : PosShare TreeShare) {sp : Space} {S : Shape} {e : EltTy} (M : Memref sig .tc sp S e) (f : Buf (Elt F) (M.view.loc (c : Thread nD τ))) : sProp 𝕄 :=
  M.view.loc (c : Thread nD τ) ↦{q} f

abbrev M53 : Memref sig .tc .smem S24 .i32 := Memref.whole main_v53
abbrev M29 : Memref sig .tc .smem S24 .i32 := Memref.whole main_v29
abbrev M23 : Memref sig .tc .smem S24 .i32 := Memref.whole main_v23
abbrev M5 : Memref sig .tc .smem S10 .i32 := Memref.whole main_v5

/-- The word a load of a 24-word table reads at a grid point. -/
def rd24 (f : S24.Idx → BitVec 32) (i : grid0.Coords) : BitVec 32 :=
  f ((Rect.unit (s := S24) (k0_off1 i) S1.size (k0_off1_inb i)).emb (Shape.Idx.first (numel1_S1.symm ▸ Nat.one_pos)))

/-- The word a load of the offsets reads at an offset. -/
def rd10 (f : S10.Idx → BitVec 32) (off : Fin 1 → Nat) : BitVec 32 :=
  if h : ∀ a, off a + S1.size a ≤ S10.size a then f ((Rect.unit (s := S10) off S1.size h).emb (Shape.Idx.first (numel1_S1.symm ▸ Nat.one_pos))) else 0#32

/-- What the body leaves in the output window, over what it finds there, the tables and the input blocks. -/
def bodyOut (f53 f29 f23 : S24.Idx → BitVec 32) (f5 : S10.Idx → BitVec 32) (i : grid0.Coords) (xb : Vec F S512x2048 .fp8e4m3) (xsb : Vec F S512x1 .f32)
    (wb : Vec F S1x2048x1536 .fp8e4m3) (wsb : Vec F S1x1x1536 .f32) (ob : Vec F S512x1536 .bf16) : Vec F S512x1536 .bf16 :=
  if k0_cond1 (rd24 f23 i) = 1#1 then
    k0_pay1 (rd24 f29 i) (rd24 f53 i) (rd10 f5 (k0_off3 (rd24 f29 i))) (rd10 f5 (k0_off4 (rd24 f29 i))) xb wb xsb wsb ob
  else ob

/-- The body's run at a grid point: a masked-off point leaves the output block; a valid one stores the blended block. -/
theorem kernelRun (c : Dev nD) (q : PosShare TreeShare) (i : grid0.Coords)
    (arg5 : Memref sig .tc .vmem S512x2048 .fp8e4m3) (harg5 : arg5.IsWhole) (arg6 : Memref sig .tc .vmem S512x1 .f32) (harg6 : arg6.IsWhole)
    (arg7 : Memref sig .tc .vmem S1x2048x1536 .fp8e4m3) (harg7 : arg7.IsWhole) (arg8 : Memref sig .tc .vmem S1x1x1536 .f32) (harg8 : arg8.IsWhole)
    (arg9 : Memref sig .tc .vmem S512x1536 .bf16) (harg9 : arg9.IsWhole)
    (f53 : Buf (Elt F) ((M53).view.loc (c : Thread nD τ))) (f29 : Buf (Elt F) ((M29).view.loc (c : Thread nD τ)))
    (f23 : Buf (Elt F) ((M23).view.loc (c : Thread nD τ))) (f5 : Buf (Elt F) ((M5).view.loc (c : Thread nD τ)))
    (xb : Vec F S512x2048 .fp8e4m3) (xsb : Vec F S512x1 .f32) (wb : Vec F S1x2048x1536 .fp8e4m3) (wsb : Vec F S1x1x1536 .f32) (ob : Vec F S512x1536 .bf16)
    (hchk : k0_chk1 (rd24 f23 i) (rd24 f29 i))
    (K : PUnit → sProp 𝕄) :
    iprop(tblPt c q M53 f53 ∗ tblPt c q M29 f29 ∗ tblPt c q M23 f23 ∗ tblPt c q M5 f5
        ∗ owns (c : Thread nD τ) arg5 fullShare xb ∗ owns (c : Thread nD τ) arg6 fullShare xsb ∗ owns (c : Thread nD τ) arg7 fullShare wb
        ∗ owns (c : Thread nD τ) arg8 fullShare wsb ∗ owns (c : Thread nD τ) arg9 fullShare ob
        ∗ (iprop(tblPt c q M53 f53 ∗ tblPt c q M29 f29 ∗ tblPt c q M23 f23 ∗ tblPt c q M5 f5
            ∗ owns (c : Thread nD τ) arg5 fullShare xb ∗ owns (c : Thread nD τ) arg6 fullShare xsb ∗ owns (c : Thread nD τ) arg7 fullShare wb
            ∗ owns (c : Thread nD τ) arg8 fullShare wsb ∗ owns (c : Thread nD τ) arg9 fullShare (bodyOut f53 f29 f23 f5 i xb xsb wb wsb ob)) -∗ K ⟨⟩))
      ⊢ wp frame (wpE (defs₀ (F := F)) Variants.none c none) Set.univ
          (cc0__body i M53 (Memref.isWhole_whole _) M29 (Memref.isWhole_whole _) M23 (Memref.isWhole_whole _) M5 (Memref.isWhole_whole _)
            arg5 harg5 arg6 harg6 arg7 harg7 arg8 harg8 arg9 harg9) K := by
  simp only [cc0__body_eq_skeleton]; unfold cc0__body_skel
  simp only [k0_part1_eq_skeleton]; unfold k0_part1_skel
  unfold owns
  iintro ⟨T53, T29, T23, T5, ⟨%g5, %e5, H5⟩, ⟨%g6, %e6, H6⟩, ⟨%g7, %e7, H7⟩, ⟨%g8, %e8, H8⟩, ⟨%g9, %e9, H9⟩, Hk⟩
  have hchk' : k0_chk1 (M23.view.readAt (Elt F) (Rect.unit (s := S24) (k0_off1 i) S1.size (k0_off1_inb i)).toLoadRect f23 (Shape.Idx.first (numel1_S1.symm ▸ Nat.one_pos)))
      (M29.view.readAt (Elt F) (Rect.unit (s := S24) (k0_off2 i) S1.size (k0_off2_inb i)).toLoadRect f29 (Shape.Idx.first (numel1_S1.symm ▸ Nat.one_pos))) := hchk
  sl_exec
  sl_step
  iapply Hk
  isplitl [T53]; · iexact T53
  isplitl [T29]; · iexact T29
  isplitl [T23]; · iexact T23
  isplitl [T5]; · iexact T5
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  iexists _; isplitr; swap; · iexact H9
  ipureintro
  unfold bodyOut
  by_cases hc : k0_cond1 (rd24 f23 i) = 1#1
  · rw [dif_pos (show k0_cond1 (kernelRun.sl.r c i f23) = 1#1 from hc), if_pos hc, View.read_writes_full]
    have h5 : View.readAt (Elt F) arg5.view (Rect.unit ![0, 0] S512x2048.size inb_S512x2048_S512x2048_0_0).toLoadRect g5 = xb := (View.readAt_full _ _ _).trans e5
    have h6 : View.readAt (Elt F) arg6.view (Rect.unit ![0, 0] S512x1.size inb_S512x1_S512x1_0_0).toLoadRect g6 = xsb := (View.readAt_full _ _ _).trans e6
    have h7 : View.readAt (Elt F) arg7.view (Rect.unit ![0, 0, 0] S1x2048x1536.size inb_S1x2048x1536_S1x2048x1536_0_0_0).toLoadRect g7 = wb := (View.readAt_full _ _ _).trans e7
    have h8 : View.readAt (Elt F) arg8.view (Rect.unit ![0, 0, 0] S1x1x1536.size inb_S1x1x1536_S1x1x1536_0_0_0).toLoadRect g8 = wsb := (View.readAt_full _ _ _).trans e8
    have h9 : View.readAt (Elt F) arg9.view (Rect.unit ![0, 0] S512x1536.size inb_S512x1536_S512x1536_0_0).toLoadRect g9 = ob := (View.readAt_full _ _ _).trans e9
    rw [h5, h6, h7, h8, h9]
    have h3 : rd10 f5 (k0_off3 (rd24 f29 i)) = kernelRun.sl.r_3 c i f29 f23 f5 hchk hc := dif_pos (hchk.1 hc)
    have h4 : rd10 f5 (k0_off4 (rd24 f29 i)) = kernelRun.sl.r_4 c i f29 f23 f5 hchk hc := dif_pos (hchk.2 hc)
    rw [h3, h4]
    rfl
  · rw [dif_neg (show ¬ k0_cond1 (kernelRun.sl.r c i f23) = 1#1 from hc), if_neg hc]
    exact e9

end Cert.Kernel.Hand

end
-- ==== Proof.KData.lean ====
/-
  The proof's data of the launch: the tables the host computed, the pipeline at them, what the body leaves in each
  window, and the body obligation.
-/
module

public import proofs.«01_k».proof.Proof.KBody
public import proofs.«01_k».proof.Proof.Gen.Kernel.Launch

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Idealize.ShloMosaic.StableHlo

open Facts
attribute [local instance] Cert.Kernel.Gen.facts

variable {F : FTy → Type} [FloatOps F]

local notation "𝕄" => MT nD τ sig Unit (Elt F) ℕ (UR sig nD τ) ℕ

variable (m : (ℓ : Loc nD τ sig) → Buf (Elt F) ℓ)

/-- The buffers when the kernel is launched. -/
def V (c : Dev nD) (b : Ref sig .tc) : Buf (Elt F) ((c : Thread nD τ).loc b) := Stages.atLaunch (fun b => m (c, b)) b

/-- The tables the kernel is launched with. -/
def tabs : pre0.Contents (Elt F) := fun k => V m 0 (pre0.ref k)

variable (hok : ok0 (tabs m))

/-- The tables as the pipeline takes them: within its side condition. -/
abbrev adm (p : Fin 1) : (pcfgs (F := F) p).Adm := ⟨tabs m, hok⟩

/-- The pipeline at the tables. -/
abbrev cfgA : Pipeline.Cfg sig Λ₀ := cfg0 (adm m hok 0)

/-- The block of a window's array at a point. -/
def iblk (c : Dev nD) (w : Fin 5) (t : Fin (cfgA m hok).N) :
    (((cfgA m hok).win w).xblock ((cfgA m hok).grid.coords t)).Idx → Elt F ((cfgA m hok).win w).elt :=
  (((cfgA m hok).win w).blk t).view.read (Elt F) (V m c (Pipeline.arrRef spec0 w))

/-- The output window after the body at a point, over what it held before. -/
def outAt (c : Dev nD) (t : Fin (cfgA m hok).N) (Y : S512x1536.Idx → Elt F .bf16) : S512x1536.Idx → Elt F .bf16 :=
  bodyOut (tabs m 0) (tabs m 1) (tabs m 2) (tabs m 3) (grid0.coords t) (iblk m hok c 0 t) (iblk m hok c 1 t) (iblk m hok c 2 t) (iblk m hok c 3 t) Y

/-- The proof's data: every input window is left as found, the output as `outAt` says. -/
def rdat (c : Dev nD) : RDat τ (Elt F) Unit ℕ (UR sig nD τ) ℕ (cfgA m hok) c where
  A w := V m c (Pipeline.arrRef spec0 w)
  after := fun
    | 0 => fun _ Y X => X = Y
    | 1 => fun _ Y X => X = Y
    | 2 => fun _ Y X => X = Y
    | 3 => fun _ Y X => X = Y
    | 4 => fun t Y X => X = outAt m hok c t Y
  Φ _ := iprop(Pipeline.ΦA spec0 c ∗ Pipeline.ΦT pre0 (tabs m) c)
  q _ := fullShare
  owed _ := 0

theorem finds0 (c : Dev nD) (t : Fin (cfgA m hok).N) (Y) (h : (rdat m hok c).Finds 0 t Y) : Y = iblk m hok c 0 t := by
  obtain ⟨d, hd⟩ := (rdat m hok c).finds_in_eq_fetched 0 rfl (fun _ _ _ => rfl) (fun _ _ _ h => h) t Y h
  exact hd
theorem finds1 (c : Dev nD) (t : Fin (cfgA m hok).N) (Y) (h : (rdat m hok c).Finds 1 t Y) : Y = iblk m hok c 1 t := by
  obtain ⟨d, hd⟩ := (rdat m hok c).finds_in_eq_fetched 1 rfl (fun _ _ _ => rfl) (fun _ _ _ h => h) t Y h
  exact hd
theorem finds2 (c : Dev nD) (t : Fin (cfgA m hok).N) (Y) (h : (rdat m hok c).Finds 2 t Y) : Y = iblk m hok c 2 t := by
  obtain ⟨d, hd⟩ := (rdat m hok c).finds_in_eq_fetched 2 rfl (fun _ _ _ => rfl) (fun _ _ _ h => h) t Y h
  exact hd
theorem finds3 (c : Dev nD) (t : Fin (cfgA m hok).N) (Y) (h : (rdat m hok c).Finds 3 t Y) : Y = iblk m hok c 3 t := by
  obtain ⟨d, hd⟩ := (rdat m hok c).finds_in_eq_fetched 3 rfl (fun _ _ _ => rfl) (fun _ _ _ h => h) t Y h
  exact hd

theorem PhiT_eq (c : Dev nD) : (Pipeline.ΦT pre0 (tabs m) c : sProp 𝕄)
    = iprop(tblPt c fullShare.right M53 (tabs m 0) ∗ tblPt c fullShare.right M29 (tabs m 1) ∗ tblPt c fullShare.right M23 (tabs m 2)
        ∗ tblPt c fullShare.right M5 (tabs m 3)) :=
  bigSep_univ_eq_bigSepL [(0 : Fin 4), (1 : Fin 4), (2 : Fin 4), (3 : Fin 4)] (by decide) (by decide) _

/-- The words the body loads satisfy the side condition of the offsets it reads at. -/
abbrev Checked : Prop := ∀ i : grid0.Coords, k0_chk1 (rd24 (tabs m 2) i) (rd24 (tabs m 1) i)

/-- The staging memrefs the body is handed at a point. -/
abbrev ms0 (t : Fin (cfgA m hok).N) : Memref sig .tc .vmem S512x2048 .fp8e4m3 := spec0_0.stage ((cfgA m hok).slots t 0)
abbrev ms1 (t : Fin (cfgA m hok).N) : Memref sig .tc .vmem S512x1 .f32 := spec0_1.stage ((cfgA m hok).slots t 1)
abbrev ms2 (t : Fin (cfgA m hok).N) : Memref sig .tc .vmem S1x2048x1536 .fp8e4m3 := spec0_2.stage ((cfgA m hok).slots t 2)
abbrev ms3 (t : Fin (cfgA m hok).N) : Memref sig .tc .vmem S1x1x1536 .f32 := spec0_3.stage ((cfgA m hok).slots t 3)
abbrev ms4 (t : Fin (cfgA m hok).N) : Memref sig .tc .vmem S512x1536 .bf16 := spec0_4.stage ((cfgA m hok).slots t 4)
abbrev hs0 (t : Fin (cfgA m hok).N) : (ms0 m hok t).IsWhole := hstage0_0 (((cfgA m hok).slots t 0).cast nbuf0_0)
abbrev hs1 (t : Fin (cfgA m hok).N) : (ms1 m hok t).IsWhole := hstage0_1 (((cfgA m hok).slots t 1).cast nbuf0_1)
abbrev hs2 (t : Fin (cfgA m hok).N) : (ms2 m hok t).IsWhole := hstage0_2 (((cfgA m hok).slots t 2).cast nbuf0_2)
abbrev hs3 (t : Fin (cfgA m hok).N) : (ms3 m hok t).IsWhole := hstage0_3 (((cfgA m hok).slots t 3).cast nbuf0_3)
abbrev hs4 (t : Fin (cfgA m hok).N) : (ms4 m hok t).IsWhole := hstage0_4 (((cfgA m hok).slots t 4).cast nbuf0_4)

/-- The kernel's body as the pipeline calls it at a point. -/
abbrev bodyAt (t : Fin (cfgA m hok).N) : Prog (TpuEff nD τ sig (Elt F) Λ₀ .tc) PUnit :=
  cc0__body (grid0.coords t) M53 (Memref.isWhole_whole _) M29 (Memref.isWhole_whole _) M23 (Memref.isWhole_whole _) M5 (Memref.isWhole_whole _)
    (ms0 m hok t) (hs0 m hok t) (ms1 m hok t) (hs1 m hok t) (ms2 m hok t) (hs2 m hok t) (ms3 m hok t) (hs3 m hok t) (ms4 m hok t) (hs4 m hok t)

theorem defs₀_row (t : Fin (cfgA m hok).N) :
    defs₀ (F := F) .tc (cfgA m hok).body ((cfgA m hok).bodyArgs t ((cfgA m hok).slots t)) = bodyAt m hok t := by
  unfold defs₀; rw [Defs.onTc_tc]

/-- What the body is called with at a point, and what it returns. -/
def bodyPre (c : Dev nD) (t : Fin (cfgA m hok).N) (Y : S512x1536.Idx → Elt F .bf16) : sProp 𝕄 :=
  iprop((Pipeline.ΦA spec0 c ∗ (tblPt c fullShare.right M53 (tabs m 0) ∗ tblPt c fullShare.right M29 (tabs m 1) ∗ tblPt c fullShare.right M23 (tabs m 2)
        ∗ tblPt c fullShare.right M5 (tabs m 3)))
    ∗ (rdat m hok c).owesAt () t.castSucc
    ∗ owns (c : Thread nD τ) (ms0 m hok t) fullShare (iblk m hok c 0 t) ∗ owns (c : Thread nD τ) (ms1 m hok t) fullShare (iblk m hok c 1 t)
    ∗ owns (c : Thread nD τ) (ms2 m hok t) fullShare (iblk m hok c 2 t) ∗ owns (c : Thread nD τ) (ms3 m hok t) fullShare (iblk m hok c 3 t)
    ∗ owns (c : Thread nD τ) (ms4 m hok t) fullShare Y)
def bodyPost (c : Dev nD) (t : Fin (cfgA m hok).N) (Y : S512x1536.Idx → Elt F .bf16) : sProp 𝕄 :=
  iprop((Pipeline.ΦA spec0 c ∗ (tblPt c fullShare.right M53 (tabs m 0) ∗ tblPt c fullShare.right M29 (tabs m 1) ∗ tblPt c fullShare.right M23 (tabs m 2)
        ∗ tblPt c fullShare.right M5 (tabs m 3)))
    ∗ (rdat m hok c).owesAt () t.succ
    ∗ owns (c : Thread nD τ) (ms0 m hok t) fullShare (iblk m hok c 0 t) ∗ owns (c : Thread nD τ) (ms1 m hok t) fullShare (iblk m hok c 1 t)
    ∗ owns (c : Thread nD τ) (ms2 m hok t) fullShare (iblk m hok c 2 t) ∗ owns (c : Thread nD τ) (ms3 m hok t) fullShare (iblk m hok c 3 t)
    ∗ owns (c : Thread nD τ) (ms4 m hok t) fullShare (outAt m hok c t Y))

/-- The body at a point. -/
theorem sound_body (hchk : Checked m) (c : Dev nD) (t : Fin (cfgA m hok).N) (Y : S512x1536.Idx → Elt F .bf16) :
    bodyPre m hok c t Y ⊢ wp frame (wpE (defs₀ (F := F)) Variants.none c none) Set.univ (bodyAt m hok t) (fun _ => bodyPost m hok c t Y) := by
  unfold bodyPre bodyPost bodyAt
  rw [show (rdat m hok c).owesAt () t.succ = (rdat m hok c).owesAt () t.castSucc from rfl]
  iintro ⟨⟨HA, T53, T29, T23, T5⟩, HO, H0, H1, H2, H3, H4⟩
  iapply (kernelRun c fullShare.right (grid0.coords t) (ms0 m hok t) (hs0 m hok t) (ms1 m hok t) (hs1 m hok t) (ms2 m hok t) (hs2 m hok t)
    (ms3 m hok t) (hs3 m hok t) (ms4 m hok t) (hs4 m hok t) (tabs m 0) (tabs m 1) (tabs m 2) (tabs m 3)
    (iblk m hok c 0 t) (iblk m hok c 1 t) (iblk m hok c 2 t) (iblk m hok c 3 t) Y (hchk (grid0.coords t)) _)
  isplitl [T53]; · iexact T53
  isplitl [T29]; · iexact T29
  isplitl [T23]; · iexact T23
  isplitl [T5]; · iexact T5
  isplitl [H0]; · iexact H0
  isplitl [H1]; · iexact H1
  isplitl [H2]; · iexact H2
  isplitl [H3]; · iexact H3
  isplitl [H4]; · iexact H4
  iintro ⟨T53, T29, T23, T5, H0, H1, H2, H3, H4⟩
  isplitl [HA T53 T29 T23 T5]
  · isplitl [HA]; · iexact HA
    isplitl [T53]; · iexact T53
    isplitl [T29]; · iexact T29
    isplitl [T23]; · iexact T23
    iexact T5
  isplitl [HO]; · iexact HO
  isplitl [H0]; · iexact H0
  isplitl [H1]; · iexact H1
  isplitl [H2]; · iexact H2
  isplitl [H3]; · iexact H3
  iexact H4

/-- The body obligation. -/
theorem body_obligation (hchk : Checked m) (c : Dev nD) :
    (rdat m hok c).BodyObligation (defs₀ (F := F)) Variants.none () Set.univ := by
  intro t Y hY
  have e0 := finds0 m hok c t _ (hY 0)
  have e1 := finds1 m hok c t _ (hY 1)
  have e2 := finds2 m hok c t _ (hY 2)
  have e3 := finds3 m hok c t _ (hY 3)
  rw [bigSep_W0, bigSep_W0]
  rw [e0, e1, e2, e3]
  have hΦ : ∀ t, (rdat m hok c).Φ t = iprop(Pipeline.ΦA spec0 c ∗ Pipeline.ΦT pre0 (tabs m) c) := fun _ => rfl
  rw [hΦ, hΦ, PhiT_eq]
  rw [defs₀_row]
  refine BIBase.Entails.trans (Q := bodyPre m hok c t (Y 4)) ?_ ((sound_body m hok hchk c t (Y 4)).trans (wp_mono _ _ _ fun _ => ?_))
  · exact .rfl
  · unfold bodyPost
    iintro ⟨HΦ, HO, H0, H1, H2, H3, H4⟩
    isplitl [HΦ]; · iexact HΦ
    isplitl [HO]; · iexact HO
    isplitl [H0]
    · iexists _; isplitr; swap; · iexact H0
      ipureintro; exact rfl
    isplitl [H1]
    · iexists _; isplitr; swap; · iexact H1
      ipureintro; exact rfl
    isplitl [H2]
    · iexists _; isplitr; swap; · iexact H2
      ipureintro; exact rfl
    isplitl [H3]
    · iexists _; isplitr; swap; · iexact H3
      ipureintro; exact rfl
    iexists _; isplitr; swap; · iexact H4
    ipureintro; exact rfl

end Cert.Kernel.Hand

end
-- ==== Proof.KFits.lean ====
/-
  THE TABLES FIT. From the group sizes' precondition: the sizes are naturals below 2^28, the tables at launch are the schedule's
  words, every window's block lies inside its array, and the body's assumed offsets lie inside the offsets' table.
-/
module

public import proofs.«01_k».proof.Proof.KData
public import proofs.«01_k».proof.Proof.Gen.Pre_sizes_count
public import Idealize.ShloMosaic.Lib.ReduceAll
public import Idealize.ShloMosaic.Lib.WordCmp

@[expose] public section

namespace Cert.Kernel.Hand

open Idealize.ShloMosaic Idealize.ShloMosaic.TcCoe Cert.Kernel Cert.Kernel.Gen
open Cert.Kernel.Stages (Sizes offs T G)
open Cert.Sched
open Facts
attribute [local instance] Cert.Kernel.Gen.facts Cert.Pre_sizes_count.Gen.facts

variable {F : FTy → Type} [FloatOps F]

/-- The precondition read back: each group size is a natural below 2^28. -/
theorem sizes_of_pre (a0 : FVec F S8192x2048 .fp8e4m3) (a1 : FVec F S8192x1 .f32) (gs : IVec S8 32) (a3 : FVec F S8x2048x1536 .fp8e4m3)
    (a4 : FVec F S8x1536 .f32) (h : Cert.Pre_sizes_count.fn (F := F) a0 a1 gs a3 a4 = fun _ => 1#1) :
    Sizes (fun i => if hi : i < 8 then (gs (ValueIdx.ix1 ⟨i, hi⟩)).toNat else 0) gs := by
  have key : ∀ i : Fin 8, (gs (ValueIdx.ix1 i)).toNat < 2 ^ 28 := by
    intro i
    have e := congrFun h (fun a => a.elim0)
    dsimp only [Cert.Pre_sizes_count.fn] at e
    haveI : Subsingleton (Cert.Pre_sizes_count.S_).Idx := ⟨fun a b => funext fun x => x.elim0⟩
    have e1 := Host.reduce_andi_all _ _ _ _ _ e (ValueIdx.ix1 i)
    obtain ⟨e2, e3⟩ := IntOp.andi_eq_one.1 e1
    have e4 := IntOp.cmpi_sge.1 e2
    have e5 := IntOp.cmpi_sle.1 e3
    have e6 : (0 : Int) ≤ (gs (ValueIdx.ix1 i)).toInt := e4
    have e7 : (gs (ValueIdx.ix1 i)).toInt ≤ 268435455 := e5
    have := (gs (ValueIdx.ix1 i)).isLt
    rw [BitVec.toInt_eq_toNat_cond] at e6 e7
    split_ifs at e6 e7 <;> omega
  refine ⟨fun i hi => ?_, fun i => ?_⟩
  · simp only [hi, dif_pos]; exact key ⟨i, hi⟩
  · simp only [i.isLt, dif_pos]
    exact (by simp : gs (ValueIdx.ix1 i) = BitVec.ofNat 32 (gs (ValueIdx.ix1 i)).toNat)

/-- The grid coordinate of a point, as a position of a table. -/
abbrev pos (i : grid0.Coords) : Fin 24 := ⟨(i 0).val, (i 0).isLt⟩

theorem rd24_at (f : IVec S24 32) (i : grid0.Coords) : rd24 f i = f (ValueIdx.ix1 (pos i)) := by
  unfold rd24
  refine congrArg f (funext fun a => ?_)
  have : a = 0 := Subsingleton.elim _ _
  subst this
  refine Fin.ext ?_
  have h := (i 0).isLt
  have h' : (i 0).val < 24 := h
  show (BitVec.ofNat 32 (i 0).val).toNat + 1 * 0 = (i 0).val
  rw [BitVec.toNat_ofNat]; omega

theorem rd10_at (f : IVec S10 32) (off : Fin 1 → ℕ) (j : Fin 10) (h : off 0 = j.val) : rd10 f off = f (ValueIdx.ix1 j) := by
  have hj := j.isLt
  have hoff : ∀ a, off a + S1.size a ≤ S10.size a := by
    intro a
    have : a = 0 := Subsingleton.elim _ _
    subst this
    show off 0 + 1 ≤ 10
    omega
  unfold rd10
  rw [dif_pos hoff]
  refine congrArg f (funext fun a => ?_)
  have : a = 0 := Subsingleton.elim _ _
  subst this
  refine Fin.ext ?_
  show off 0 + 1 * 0 = j.val
  omega

/-- The tables are the schedule's words. -/
structure Tabs (n : ℕ → ℕ) (f53 f29 f23 : IVec S24 32) (f5 : IVec S10 32) : Prop where
  off : ∀ j : Fin 10, f5 (ValueIdx.ix1 j) = BitVec.ofNat 32 (offs n j.val)
  tile : ∀ w : Fin 24, f53 (ValueIdx.ix1 w) = BitVec.ofNat 32 (T n w.val)
  group : ∀ w : Fin 24, f29 (ValueIdx.ix1 w) = BitVec.ofNat 32 (G n w.val)
  valid : ∀ w : Fin 24, f23 (ValueIdx.ix1 w) = BitVec.ofNat 32 (if w.val < cum (offs n) 9 then 1 else 0)

variable {m : (ℓ : Loc nD τ sig) → Buf (Elt F) ℓ} {n : ℕ → ℕ}

theorem tabs_of (hs : Sizes n (m ((0 : Dev nD).tc.loc main_arg2) : IVec S8 32)) : Tabs n (tabs m 0) (tabs m 1) (tabs m 2) (tabs m 3) := by
  obtain ⟨h5, h53, h29, h23⟩ := Stages.launch_all (F := F) (fun b => m (0, b)) n hs
  exact ⟨h5, h53, h29, h23⟩

theorem minsi7 {g : ℕ} (hg : g < 9) : (Scalar.minsi (BitVec.ofNat 32 g) 7#32).toNat = min g 7 := by
  have e : Scalar.minsi (BitVec.ofNat 32 g) 7#32 = BitVec.ofNat 32 (min g 7) := Stages.minsi_word (by omega) (by omega)
  rw [e, BitVec.toNat_ofNat]; omega

section
variable {pf : pre0.Contents (Elt F)} (ht : Tabs n (pf 0) (pf 1) (pf 2) (pf 3)) (i : grid0.Coords)
include ht

theorem at0 : pf.at 0 (Rect.unit (s := S24) (k0_off1 i) S1.size (k0_off1_inb i)) numel1_S1 = BitVec.ofNat 32 (T n (pos i).val) :=
  (rd24_at (pf 0) i).trans (ht.tile _)
theorem at1 : pf.at 1 (Rect.unit (s := S24) (k0_off1 i) S1.size (k0_off1_inb i)) numel1_S1 = BitVec.ofNat 32 (G n (pos i).val) :=
  (rd24_at (pf 1) i).trans (ht.group _)

theorem T_lt : T n (pos i).val < 16 := (Stages.sched n).tile_lt (pos i).isLt
theorem G_lt : G n (pos i).val < 9 := (Stages.sched n).group_lt (pos i).isLt

theorem tile_word : (BitVec.ofNat 32 (T n (pos i).val)).toNat = T n (pos i).val := by
  have := T_lt ht i
  rw [BitVec.toNat_ofNat]; omega

theorem map0 : cc0_transform_0 k0_off1_inb numel1_S1 pf i = ![T n (pos i).val, 0] := by
  have e : cc0_transform_0 k0_off1_inb numel1_S1 pf i = ![(pf.at 0 (Rect.unit (s := S24) (k0_off1 i) S1.size (k0_off1_inb i)) numel1_S1).toNat, 0] := rfl
  rw [e, at0 ht, tile_word ht]
theorem map1 : cc0_transform_1 k0_off1_inb numel1_S1 pf i = ![T n (pos i).val, 0] := by
  have e : cc0_transform_1 k0_off1_inb numel1_S1 pf i = ![(pf.at 0 (Rect.unit (s := S24) (k0_off1 i) S1.size (k0_off1_inb i)) numel1_S1).toNat, 0] := rfl
  rw [e, at0 ht, tile_word ht]
theorem map2 : cc0_transform_2 k0_off1_inb numel1_S1 pf i = ![min (G n (pos i).val) 7, 0, 0] := by
  have e : cc0_transform_2 k0_off1_inb numel1_S1 pf i = ![(Scalar.minsi (pf.at 1 (Rect.unit (s := S24) (k0_off1 i) S1.size (k0_off1_inb i)) numel1_S1 : BitVec 32) 7#32).toNat, 0, 0] := rfl
  rw [e, at1 ht, minsi7 (G_lt ht i)]
theorem map3 : cc0_transform_3 k0_off1_inb numel1_S1 pf i = ![min (G n (pos i).val) 7, 0, 0] := by
  have e : cc0_transform_3 k0_off1_inb numel1_S1 pf i = ![(Scalar.minsi (pf.at 1 (Rect.unit (s := S24) (k0_off1 i) S1.size (k0_off1_inb i)) numel1_S1 : BitVec 32) 7#32).toNat, 0, 0] := rfl
  rw [e, at1 ht, minsi7 (G_lt ht i)]
theorem map4 : cc0_transform_4 k0_off1_inb numel1_S1 pf i = ![T n (pos i).val, 0] := by
  have e : cc0_transform_4 k0_off1_inb numel1_S1 pf i = ![(pf.at 0 (Rect.unit (s := S24) (k0_off1 i) S1.size (k0_off1_inb i)) numel1_S1).toNat, 0] := rfl
  rw [e, at0 ht, tile_word ht]

omit i in
/-- Every window's block lies inside its array. -/
theorem ok_of : ok0 pf := by
  refine ⟨fun i => ⟨?_, .inr (Affine.block_words_dvd (by decide) (by decide))⟩, fun i => ⟨?_, .inl rfl⟩,
    fun i => ⟨?_, .inr (Affine.block_words_dvd (by decide) (by decide))⟩, fun i => ⟨?_, .inl rfl⟩,
    fun i => ⟨?_, .inr (Affine.block_words_dvd (by decide) (by decide))⟩⟩
  · rw [map0 ht]
    have := T_lt ht i
    intro a; fin_cases a
    · show (T n (pos i).val + 1) * 512 ≤ 8192
      omega
    · show (0 + 1) * 2048 ≤ 2048
      omega
  · rw [map1 ht]
    have := T_lt ht i
    intro a; fin_cases a
    · show (T n (pos i).val + 1) * 512 ≤ 8192
      omega
    · show (0 + 1) * 1 ≤ 1
      omega
  · rw [map2 ht]
    intro a; fin_cases a
    · show (min (G n (pos i).val) 7 + 1) * 1 ≤ 8
      omega
    · show (0 + 1) * 2048 ≤ 2048
      omega
    · show (0 + 1) * 1536 ≤ 1536
      omega
  · rw [map3 ht]
    intro a; fin_cases a
    · show (min (G n (pos i).val) 7 + 1) * 1 ≤ 8
      omega
    · show (0 + 1) * 1 ≤ 1
      omega
    · show (0 + 1) * 1536 ≤ 1536
      omega
  · rw [map4 ht]
    have := T_lt ht i
    intro a; fin_cases a
    · show (T n (pos i).val + 1) * 512 ≤ 8192
      omega
    · show (0 + 1) * 1536 ≤ 1536
      omega

theorem off3_eq : k0_off3 (BitVec.ofNat 32 (G n (pos i).val)) 0 = G n (pos i).val := by
  have := G_lt ht i
  show (BitVec.ofNat 32 (G n (pos i).val)).toNat = _
  rw [BitVec.toNat_ofNat]; omega
theorem off4_eq : k0_off4 (BitVec.ofNat 32 (G n (pos i).val)) 0 = G n (pos i).val + 1 := by
  have := G_lt ht i
  show (BitVec.ofNat 32 (G n (pos i).val) + BitVec.ofNat 32 1).toNat = _
  rw [Stages.add_word, BitVec.toNat_ofNat]; omega

theorem chk_of : k0_chk1 (rd24 (pf 2) i) (rd24 (pf 1) i) := by
  have hg := G_lt ht i
  have e : rd24 (pf 1) i = BitVec.ofNat 32 (G n (pos i).val) := (rd24_at (pf 1) i).trans (ht.group _)
  rw [e]
  refine ⟨fun _ a => ?_, fun _ a => ?_⟩
  · have : a = 0 := Subsingleton.elim _ _
    subst this
    rw [off3_eq ht]
    show G n (pos i).val + 1 ≤ 10
    omega
  · have : a = 0 := Subsingleton.elim _ _
    subst this
    rw [off4_eq ht]
    show G n (pos i).val + 1 + 1 ≤ 10
    omega
end

theorem checked_of (ht : Tabs n (tabs m 0) (tabs m 1) (tabs m 2) (tabs m 3)) : Checked m := fun i => chk_of ht i

end Cert.Kernel.Hand

end
-- ==== Proof.KRun.lean ====
/-
  THE LAUNCH. From a memory whose tables fit, every weakly fair execution of the kernel's @main ends, and the final memory is
  described by the relational post: the output's array assembled from the blocks the body may leave, every other buffer as at launch.
-/
module

public import proofs.«01_k».proof.Proof.KFits

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.Kernel.Stages (Sizes offs T G)

open Facts
attribute [local instance] Cert.Kernel.Gen.facts

variable {F : FTy → Type} [FloatOps F]
variable (m : (ℓ : Loc nD τ sig) → Buf (Elt F) ℓ) (ρ : Dev nD → PrngReg)

/-! No host operation binds a fresh location. -/

theorem hostOps0_fresh : (hostOps0 : List (HloOp τ sig (Elt F))).Forall fun op => op.fresh = ∅ := by
  repeat' first | exact rfl | refine ⟨rfl, ?_⟩
theorem hostOps0_1_fresh : (hostOps0_1 : List (HloOp τ sig (Elt F))).Forall fun op => op.fresh = ∅ := by
  repeat' first | exact rfl | refine ⟨rfl, ?_⟩
theorem hostOps0_2_fresh : (hostOps0_2 : List (HloOp τ sig (Elt F))).Forall fun op => op.fresh = ∅ := by
  repeat' first | exact rfl | refine ⟨rfl, ?_⟩
theorem hostOps0_3_fresh : (hostOps0_3 : List (HloOp τ sig (Elt F))).Forall fun op => op.fresh = ∅ := by
  repeat' first | exact rfl | refine ⟨rfl, ?_⟩
theorem hostOps0_4_fresh : (hostOps0_4 : List (HloOp τ sig (Elt F))).Forall fun op => op.fresh = ∅ := by
  repeat' first | exact rfl | refine ⟨rfl, ?_⟩
theorem hostOps0_5_fresh : (hostOps0_5 : List (HloOp τ sig (Elt F))).Forall fun op => op.fresh = ∅ := by
  repeat' first | exact rfl | refine ⟨rfl, ?_⟩
theorem hostOps0_6_fresh : (hostOps0_6 : List (HloOp τ sig (Elt F))).Forall fun op => op.fresh = ∅ := by
  repeat' first | exact rfl | refine ⟨rfl, ?_⟩
theorem hostOps0_7_fresh : (hostOps0_7 : List (HloOp τ sig (Elt F))).Forall fun op => op.fresh = ∅ := by
  repeat' first | exact rfl | refine ⟨rfl, ?_⟩
theorem hostOps0_8_fresh : (hostOps0_8 : List (HloOp τ sig (Elt F))).Forall fun op => op.fresh = ∅ := by
  repeat' first | exact rfl | refine ⟨rfl, ?_⟩
theorem hostOps0_9_fresh : (hostOps0_9 : List (HloOp τ sig (Elt F))).Forall fun op => op.fresh = ∅ := by
  repeat' first | exact rfl | refine ⟨rfl, ?_⟩
theorem hostOps0_10_fresh : (hostOps0_10 : List (HloOp τ sig (Elt F))).Forall fun op => op.fresh = ∅ := by
  repeat' first | exact rfl | refine ⟨rfl, ?_⟩

/-- @main is its host prefixes, then the launch. -/
theorem hmain : Pipeline.HMainP (Ix := Unit) (Name := ℕ) (U := UR sig nD τ) (Lvl := ℕ) pcfgs 0 defs₀ Variants.none m (main (F := F)) (V m) :=
  Pipeline.hmainP_prefixes (pcs := pcfgs) (p := 0) (defs₀ := defs₀) (𝒱₀ := Variants.none) m main Stages.opss
    ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩
    ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩
    (fun c => main_chain c)

/-- Every device is the one device of the mesh. -/
theorem dev_eq (c : Dev nD) : c = 0 := Subsingleton.elim _ _

theorem tabs_eq (c : Dev nD) (k) : V m c (pre0.ref k) = tabs m k := by
  rw [dev_eq c]; rfl

theorem share_eq (hok : ok0 (tabs m)) (c : Dev nD) (w : Fin 5) : (rdat m hok c).share w = fullShare := by
  unfold RDat.share; split <;> rfl
theorem owed_eq (hok : ok0 (tabs m)) (c : Dev nD) (t) : (rdat m hok c).owed t = 0 := rfl
theorem A_eq (hok : ok0 (tabs m)) (c : Dev nD) (w : Fin 5) : (rdat m hok c).A w = V m c (Pipeline.arrRef spec0 w) := rfl
theorem Phi_eq (hok : ok0 (tabs m)) (c : Dev nD) (t) :
    (rdat m hok c).Φ t = iprop(Pipeline.ΦA spec0 c ∗ Pipeline.ΦT pre0 (tabs m) c) := rfl

set_option maxHeartbeats 2000000 in
set_option backward.isDefEq.respectTransparency.types false in
/-- The run, from a memory whose tables fit. -/
theorem run_main (hok : ok0 (tabs m)) (hchk : Checked m) :
    θ_run defs (onTc (τ := τ) (main (F := F))) (s₀ m ρ)
      (fun r => RDat.FramePost (cfgA m hok) (rdat m hok) (V m) r ∧ r.2.sem = fun _ => 0) :=
  RDat.θ_run_frameP (Q' := _) pcfgs (adm m hok) (0 : Fin 1) launch0 defs₀ Variants.none (rdat m hok) m ρ main
    (hbody := fun c => body_obligation m hok hchk c) (hshare := share_eq m hok) (howed := owed_eq m hok) (V := V m)
    (hmain := hmain m) (hA := A_eq m hok) (hpf := tabs_eq m) (hΦ := Phi_eq m hok) (hQ' := fun _ h => h)

variable {m ρ} {hok : ok0 (tabs m)}

theorem final_arg0 {r : PUnit × MemSt nD τ sig (Elt F)} (h : RDat.FramePost (cfgA m hok) (rdat m hok) (V m) r) (c : Dev nD) :
    r.2.mem ((c : Thread nD τ).loc main_arg0) = m ((c : Thread nD τ).loc main_arg0) :=
  (RDat.FramePost.arr_in h c 0 rfl).trans (Stages.launch_main_arg0 (fun b => m (c, b)))
theorem final_arg1 {r : PUnit × MemSt nD τ sig (Elt F)} (h : RDat.FramePost (cfgA m hok) (rdat m hok) (V m) r) (c : Dev nD) :
    r.2.mem ((c : Thread nD τ).loc main_arg1) = m ((c : Thread nD τ).loc main_arg1) :=
  (RDat.FramePost.arr_in h c 1 rfl).trans (Stages.launch_main_arg1 (fun b => m (c, b)))
theorem final_arg2 {r : PUnit × MemSt nD τ sig (Elt F)} (h : RDat.FramePost (cfgA m hok) (rdat m hok) (V m) r) (c : Dev nD) :
    r.2.mem ((c : Thread nD τ).loc main_arg2) = m ((c : Thread nD τ).loc main_arg2) :=
  ((h c).2 main_arg2 (Pipeline.mem_restRefs_of main_arg2 (by decide) (by decide : ∀ w, (spec0 w).arr.view.ref ≠ main_arg2))).trans (Stages.launch_main_arg2 (fun b => m (c, b)))
theorem final_arg3 {r : PUnit × MemSt nD τ sig (Elt F)} (h : RDat.FramePost (cfgA m hok) (rdat m hok) (V m) r) (c : Dev nD) :
    r.2.mem ((c : Thread nD τ).loc main_arg3) = m ((c : Thread nD τ).loc main_arg3) :=
  (RDat.FramePost.arr_in h c 2 rfl).trans (Stages.launch_main_arg3 (fun b => m (c, b)))
theorem final_arg4 {r : PUnit × MemSt nD τ sig (Elt F)} (h : RDat.FramePost (cfgA m hok) (rdat m hok) (V m) r) (c : Dev nD) :
    r.2.mem ((c : Thread nD τ).loc main_arg4) = m ((c : Thread nD τ).loc main_arg4) :=
  ((h c).2 main_arg4 (Pipeline.mem_restRefs_of main_arg4 (by decide) (by decide : ∀ w, (spec0 w).arr.view.ref ≠ main_arg4))).trans (Stages.launch_main_arg4 (fun b => m (c, b)))

/-- The frame: from a memory whose group sizes meet the precondition, every execution ends with the arguments unchanged. -/
theorem frame_of (m : (ℓ : Loc nD τ sig) → Buf (Elt F) ℓ) (ρ : Dev nD → PrngReg) {n : ℕ → ℕ}
    (hs : Sizes n (m ((0 : Dev nD).tc.loc main_arg2) : IVec S8 32)) :
    θ_run defs (onTc (τ := τ) (main (F := F))) ⟨m, fun _ => 0, ρ⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  (θ_run defs _ _).mono (fun _ h => ⟨fun c => ⟨final_arg0 h.1 c, final_arg1 h.1 c, final_arg2 h.1 c, final_arg3 h.1 c, final_arg4 h.1 c⟩, h.2⟩)
    (run_main m ρ (ok_of (tabs_of hs)) (checked_of (tabs_of hs)))

end Cert.Kernel.Hand

end

end
-- ==== Proof.Payload.lean ====
/-
  THE BODY'S ARITHMETIC at the ideal instance, at one element: a row of the tile inside the item's group gets the product
  with the group's codes, times the row's scale, times the column's scale (zero past the last expert); any other row keeps what
  the output block held.
-/
module

public import proofs.«01_k».proof.Proof.Fits
public import Idealize.ShloMosaic.Lib.Pointwise
public import Idealize.ShloMosaic.Lib.WordCmp

@[expose] public section

noncomputable section

namespace Cert.KernelIdeal.Hand

open Cert.KernelIdeal Cert.KernelIdeal.Gen
open Idealize.ShloMosaic Idealize.ShloMosaic.TcCoe

open Facts
attribute [local instance] Cert.KernelIdeal.Gen.facts

theorem sge_word {a b : Nat} (ha : a < 2 ^ 31) (hb : b < 2 ^ 31) :
    IntOp.cmpi .sge (BitVec.ofNat 32 a) (BitVec.ofNat 32 b) = BitVec.ofBool (decide (b ≤ a)) := by
  rw [← Routing.sle_ofNat32 hb ha]; rfl

theorem sel_one {α : Type} {p : Prop} [Decidable p] (a b : α) : Scalar.select (BitVec.ofBool (decide p)) a b = if p then a else b := by
  by_cases h : p
  · simp only [h, decide_true, if_true]; rfl
  · simp only [h, decide_false, if_false]; rfl

theorem sel_and {α : Type} {p q : Prop} [Decidable p] [Decidable q] (a b : α) :
    Scalar.select (IntOp.andi (BitVec.ofBool (decide p)) (BitVec.ofBool (decide q))) a b = if p ∧ q then a else b := by
  by_cases h : p <;> by_cases h' : q <;> simp only [h, h', decide_true, decide_false, and_true, and_false, if_true, if_false] <;> rfl

/-- The stored block at one element. -/
theorem pay1_at {g t lo hi : ℕ} (hg : g < 9) (ht : t < 16) (hlo : lo ≤ 8192) (hhi : hi ≤ 8192)
    (x : Vec Ideal S512x2048 .fp8e4m3) (w : Vec Ideal S1x2048x1536 .fp8e4m3) (xs : Vec Ideal S512x1 .f32) (ws : Vec Ideal S1x1x1536 .f32)
    (old : Vec Ideal S512x1536 .bf16) (i : Fin 512) (j : Fin 1536) :
    k0_pay1 (F := Ideal) (BitVec.ofNat 32 g) (BitVec.ofNat 32 t) (BitVec.ofNat 32 lo) (BitVec.ofNat 32 hi) x w xs ws old (ix2 i j)
      = if lo ≤ t * 512 + i.val ∧ t * 512 + i.val < hi then
          (if g < 8 then ((∑ k : Fin 2048, x (ix2 i k) * w (ix3 0 k j)) * xs (ix2 i 0)) * ws (ix3 0 0 j) else (0 : EReal))
        else old (ix2 i j) := by
  pointwise [k0_pay1]
  have hi' := i.isLt
  have e1 : IntOp.addi (Scalar.muli (BitVec.ofNat 32 t) 512#32) (BitVec.ofNat 32 i.val) = BitVec.ofNat 32 (t * 512 + i.val) := by
    show BitVec.ofNat 32 t * BitVec.ofNat 32 512 + BitVec.ofNat 32 i.val = _
    rw [← BitVec.ofNat_mul, ← BitVec.ofNat_add]
  rw [e1, sge_word (by omega) (by omega), Stages.slt_word (by omega) (by omega)]
  rw [show Scalar.cmpi CmpIPredicate.slt (BitVec.ofNat 32 g) 8#32 = BitVec.ofBool (decide (g < 8)) from Stages.slt_word (by omega) (by omega)]
  rw [sel_and, sel_one]

end Cert.KernelIdeal.Hand

end

end
-- ==== Proof.Blocks.lean ====
/-
  THE BLOCKS at a grid point, read at an element: the tile's rows of the codes and of the row scales, the group's codes and column
  scales; and what the body leaves in the output block there.
-/
module

public import proofs.«01_k».proof.Proof.Payload

@[expose] public section

noncomputable section

namespace Cert.KernelIdeal.Hand

open Cert.KernelIdeal Cert.KernelIdeal.Gen
open Idealize.ShloMosaic Idealize.ShloMosaic.TcCoe
open Idealize.ShloMosaic.Pipeline (RDat)
open Cert.KernelIdeal.Stages (Sizes offs T G)
open Cert.Sched

open Facts
attribute [local instance] Cert.KernelIdeal.Gen.facts

/-- The product's element at a row, through an expert: zero past the last expert. -/
def cell (a0 : FVec Ideal S8192x2048 .fp8e4m3) (a1 : FVec Ideal S8192x1 .f32) (a3 : FVec Ideal S8x2048x1536 .fp8e4m3) (a4 : FVec Ideal S8x1536 .f32)
    (r : Fin 8192) (g : ℕ) (j : Fin 1536) : EReal :=
  if h : g < 8 then ((∑ k : Fin 2048, a0 (ix2 r k) * a3 (ix3 ⟨g, h⟩ k j)) * a1 (ix2 r 0)) * a4 (ix2 ⟨g, h⟩ j) else 0

theorem coords_val : ∀ t : Fin grid0.N, (grid0.coords t 0).val = t.val := by decide

variable {m : (ℓ : Loc nD τ sig) → Buf (Elt Ideal) ℓ} {n : ℕ → ℕ} (hok : ok0 (tabs m))
variable (ht : Tabs n (tabs m 0) (tabs m 1) (tabs m 2) (tabs m 3)) (c : Dev nD) (t : Fin grid0.N)

/-- A point's coordinate as a table position. -/
theorem pos_coords (t : Fin grid0.N) : pos (grid0.coords t) = t := Fin.ext (coords_val t)

theorem rd24_coords (f : IVec S24 32) (t : Fin grid0.N) : rd24 f (grid0.coords t) = f (ValueIdx.ix1 t) := by
  rw [rd24_at, pos_coords]

/-- The row of the token array under a tile's row. -/
abbrev rowAt (n : ℕ → ℕ) (t : Fin 24) (i : Fin 512) : Fin 8192 :=
  ⟨T n t.val * 512 + i.val, by have := (Stages.sched n).tile_lt t.isLt; have := i.isLt; omega⟩

include ht

theorem idx0 : ((cfgA m hok).win 0).index t = ![T n t.val, 0] := by
  have e := map0 ht (grid0.coords t)
  rw [pos_coords] at e; exact e
theorem idx1 : ((cfgA m hok).win 1).index t = ![T n t.val, 0] := by
  have e := map1 ht (grid0.coords t)
  rw [pos_coords] at e; exact e
theorem idx2 : ((cfgA m hok).win 2).index t = ![min (G n t.val) 7, 0, 0] := by
  have e := map2 ht (grid0.coords t)
  rw [pos_coords] at e; exact e
theorem idx3 : ((cfgA m hok).win 3).index t = ![min (G n t.val) 7, 0, 0] := by
  have e := map3 ht (grid0.coords t)
  rw [pos_coords] at e; exact e
theorem idx4 : ((cfgA m hok).win 4).index t = ![T n t.val, 0] := by
  have e := map4 ht (grid0.coords t)
  rw [pos_coords] at e; exact e

theorem blk0_at (i : Fin 512) (k : Fin 2048) :
    iblk m hok c 0 t (ix2 i k) = (m (c, main_arg0) : FVec Ideal S8192x2048 .fp8e4m3) (ix2 (rowAt n t i) k) := by
  have e : iblk m hok c 0 t (ix2 i k) = (V m c main_arg0 : FVec Ideal S8192x2048 .fp8e4m3) ((((cfgA m hok).win 0).rect t).emb (ix2 i k)) := rfl
  rw [e]
  refine (congrFun (Stages.launch_main_arg0 (fun b => m (c, b))) _).trans (congrArg (m (c, main_arg0) : FVec Ideal S8192x2048 .fp8e4m3) ?_)
  refine funext fun a => Fin.ext ?_
  refine (Pipeline.Window.rect_emb_val ((cfgA m hok).win 0) t (ix2 i k) a).trans ?_
  refine (congrArg (fun q => q * _ + _) (congrFun (idx0 hok ht t) a)).trans ?_
  fin_cases a
  · rfl
  · show 0 * 2048 + k.val = k.val
    omega

theorem blk1_at (i : Fin 512) :
    iblk m hok c 1 t (ix2 i 0) = (m (c, main_arg1) : FVec Ideal S8192x1 .f32) (ix2 (rowAt n t i) 0) := by
  have e : iblk m hok c 1 t (ix2 i 0) = (V m c main_arg1 : FVec Ideal S8192x1 .f32) ((((cfgA m hok).win 1).rect t).emb (ix2 i 0)) := rfl
  rw [e]
  refine (congrFun (Stages.launch_main_arg1 (fun b => m (c, b))) _).trans (congrArg (m (c, main_arg1) : FVec Ideal S8192x1 .f32) ?_)
  refine funext fun a => Fin.ext ?_
  refine (Pipeline.Window.rect_emb_val ((cfgA m hok).win 1) t (ix2 i 0) a).trans ?_
  refine (congrArg (fun q => q * _ + _) (congrFun (idx1 hok ht t) a)).trans ?_
  fin_cases a
  · rfl
  · rfl

theorem blk2_at (hg : G n t.val < 8) (k : Fin 2048) (j : Fin 1536) :
    iblk m hok c 2 t (ix3 0 k j) = (m (c, main_arg3) : FVec Ideal S8x2048x1536 .fp8e4m3) (ix3 ⟨G n t.val, hg⟩ k j) := by
  have e : iblk m hok c 2 t (ix3 0 k j) = (V m c main_arg3 : FVec Ideal S8x2048x1536 .fp8e4m3) ((((cfgA m hok).win 2).rect t).emb (ix3 0 k j)) := rfl
  rw [e]
  refine (congrFun (Stages.launch_main_arg3 (fun b => m (c, b))) _).trans (congrArg (m (c, main_arg3) : FVec Ideal S8x2048x1536 .fp8e4m3) ?_)
  refine funext fun a => Fin.ext ?_
  refine (Pipeline.Window.rect_emb_val ((cfgA m hok).win 2) t (ix3 0 k j) a).trans ?_
  refine (congrArg (fun q => q * _ + _) (congrFun (idx2 hok ht t) a)).trans ?_
  fin_cases a
  · show min (G n t.val) 7 * 1 + 0 = G n t.val
    omega
  · show 0 * 2048 + k.val = k.val
    omega
  · show 0 * 1536 + j.val = j.val
    omega

theorem blk3_at (hg : G n t.val < 8) (j : Fin 1536) :
    iblk m hok c 3 t (ix3 0 0 j) = (m (c, main_arg4) : FVec Ideal S8x1536 .f32) (ix2 ⟨G n t.val, hg⟩ j) := by
  have e : iblk m hok c 3 t (ix3 0 0 j) = (V m c main_v54 : FVec Ideal S8x1x1536 .f32) ((((cfgA m hok).win 3).rect t).emb (ix3 0 0 j)) := rfl
  rw [e]
  have e2 : (((cfgA m hok).win 3).rect t).emb (ix3 0 0 j) = (ix3 ⟨G n t.val, hg⟩ 0 j : S8x1x1536.Idx) := by
    refine funext fun a => Fin.ext ?_
    refine (Pipeline.Window.rect_emb_val ((cfgA m hok).win 3) t (ix3 0 0 j) a).trans ?_
    refine (congrArg (fun q => q * _ + _) (congrFun (idx3 hok ht t) a)).trans ?_
    fin_cases a
    · show min (G n t.val) 7 * 1 + 0 = G n t.val
      omega
    · rfl
    · show 0 * 1536 + j.val = j.val
      omega
  refine (congrArg (V m c main_v54 : FVec Ideal S8x1x1536 .f32) e2).trans ((congrFun (Stages.launch_v54 (fun b => m (c, b))) _).trans ?_)
  pointwise

omit ht in
theorem off3_nat {g : ℕ} (hg : g < 9) : k0_off3 (BitVec.ofNat 32 g) 0 = g := by
  show (BitVec.ofNat 32 g).toNat = _
  rw [BitVec.toNat_ofNat]; omega
omit ht in
theorem off4_nat {g : ℕ} (hg : g < 9) : k0_off4 (BitVec.ofNat 32 g) 0 = g + 1 := by
  show (BitVec.ofNat 32 g + BitVec.ofNat 32 1).toNat = _
  rw [Stages.add_word, BitVec.toNat_ofNat]; omega

omit ht in
/-- The body's output block at an element, from its four input blocks at theirs. -/
theorem bodyOut_at {f53 f29 f23 : IVec S24 32} {f5 : IVec S10 32} (ht : Tabs n f53 f29 f23 f5)
    (a0 : FVec Ideal S8192x2048 .fp8e4m3) (a1 : FVec Ideal S8192x1 .f32) (a3 : FVec Ideal S8x2048x1536 .fp8e4m3) (a4 : FVec Ideal S8x1536 .f32)
    (x : Vec Ideal S512x2048 .fp8e4m3) (xs : Vec Ideal S512x1 .f32) (w : Vec Ideal S1x2048x1536 .fp8e4m3) (ws : Vec Ideal S1x1x1536 .f32)
    (b0 : ∀ i k, x (ix2 i k) = a0 (ix2 (rowAt n t i) k)) (b1 : ∀ i, xs (ix2 i 0) = a1 (ix2 (rowAt n t i) 0))
    (b2 : ∀ (hg : G n t.val < 8) k j, w (ix3 0 k j) = a3 (ix3 ⟨G n t.val, hg⟩ k j))
    (b3 : ∀ (hg : G n t.val < 8) j, ws (ix3 0 0 j) = a4 (ix2 ⟨G n t.val, hg⟩ j))
    (Y : Vec Ideal S512x1536 .bf16) (i : Fin 512) (j : Fin 1536) :
    bodyOut f53 f29 f23 f5 (grid0.coords t) x xs w ws Y (ix2 i j)
      = if t.val < cum (offs n) 9 ∧ offs n (G n t.val) ≤ T n t.val * 512 + i.val ∧ T n t.val * 512 + i.val < offs n (G n t.val + 1)
      then cell a0 a1 a3 a4 (rowAt n t i) (G n t.val) j else Y (ix2 i j) := by
  have hT : T n t.val < 16 := (Stages.sched n).tile_lt t.isLt
  have hG : G n t.val < 9 := (Stages.sched n).group_lt t.isLt
  have r23 := (rd24_coords f23 t).trans (ht.valid t)
  have r29 := (rd24_coords f29 t).trans (ht.group t)
  have r53 := (rd24_coords f53 t).trans (ht.tile t)
  have r5a : rd10 f5 (k0_off3 (BitVec.ofNat 32 (G n t.val))) = BitVec.ofNat 32 (offs n (G n t.val)) :=
    (rd10_at _ _ ⟨G n t.val, by omega⟩ (off3_nat hG)).trans (ht.off _)
  have r5b : rd10 f5 (k0_off4 (BitVec.ofNat 32 (G n t.val))) = BitVec.ofNat 32 (offs n (G n t.val + 1)) :=
    (rd10_at _ _ ⟨G n t.val + 1, by omega⟩ (off4_nat hG)).trans (ht.off _)
  unfold bodyOut
  rw [r23, r29, r53, r5a, r5b]
  by_cases hv : t.val < cum (offs n) 9
  · rw [if_pos hv, if_pos (by decide), pay1_at hG hT (Stages.offs_le _ _) (Stages.offs_le _ _)]
    simp only [hv, true_and]
    refine if_congr Iff.rfl ?_ rfl
    unfold cell
    by_cases h8 : G n t.val < 8
    · rw [if_pos h8, dif_pos h8, b1, b3 h8]
      refine congrArg (fun q => q * _ * _) (Finset.sum_congr rfl fun k _ => ?_)
      rw [b0, b2 h8]
    · rw [if_neg h8, dif_neg h8]
  · rw [if_neg hv, if_neg (by decide), if_neg (fun h => hv h.1)]

/-- The output block after the body at a point, at an element. -/
theorem outAt_at (Y : Vec Ideal S512x1536 .bf16) (i : Fin 512) (j : Fin 1536) :
    outAt m hok c t Y (ix2 i j) = if t.val < cum (offs n) 9 ∧ offs n (G n t.val) ≤ T n t.val * 512 + i.val ∧ T n t.val * 512 + i.val < offs n (G n t.val + 1)
      then cell (m (c, main_arg0)) (m (c, main_arg1)) (m (c, main_arg3)) (m (c, main_arg4)) (rowAt n t i) (G n t.val) j else Y (ix2 i j) :=
  bodyOut_at t ht _ _ _ _ _ _ _ _ (blk0_at hok ht c t) (blk1_at hok ht c t) (blk2_at hok ht c t) (blk3_at hok ht c t) Y i j

end Cert.KernelIdeal.Hand

end

end
-- ==== Proof.Value.lean ====
/-
  THE OUTPUT ARRAY. A tile's block is revisited over consecutive points; after the point of group `g`, every row of the tile below that
  group's end has its group's value. At the tile's last point that is every row, and the tiles cover the array.
-/
module

public import proofs.«01_k».proof.Proof.Blocks
public import proofs.«01_k».proof.Proof.Run
public import Idealize.ShloMosaic.Lib.Pipeline.ArrRel
public import Idealize.ShloMosaic.Lib.Pipeline.Value

@[expose] public section

noncomputable section

namespace Cert.KernelIdeal.Hand

open Cert.KernelIdeal Cert.KernelIdeal.Gen
open Idealize.ShloMosaic Idealize.ShloMosaic.TcCoe
open Idealize.ShloMosaic.Pipeline (RDat)
open Cert.KernelIdeal.Stages (Sizes offs T G)
open Cert.Sched

open Facts
attribute [local instance] Cert.KernelIdeal.Gen.facts

variable {m : (ℓ : Loc nD τ sig) → Buf (Elt Ideal) ℓ} {n : ℕ → ℕ} (hok : ok0 (tabs m))
variable (ht : Tabs n (tabs m 0) (tabs m 1) (tabs m 2) (tabs m 3)) (c : Dev nD)

/-- A row is in at most one group. -/
theorem group_unique (n : ℕ → ℕ) {g g' r : ℕ} (hg : g < 9) (hg' : g' < 9) (h1 : offs n g ≤ r) (h2 : r < offs n (g + 1))
    (h1' : offs n g' ≤ r) (h2' : r < offs n (g' + 1)) : g = g' := by
  have ho := Stages.offs_Offs n
  rcases Nat.lt_trichotomy g g' with h | h | h
  · have := ho.le (a := g + 1) (b := g') (by omega) (by omega); omega
  · exact h
  · have := ho.le (a := g' + 1) (b := g) (by omega) (by omega); omega

/-- Every row is in a group. -/
theorem group_exists (n : ℕ → ℕ) {r : ℕ} (hr : r < 8192) : ∃ g, g < 9 ∧ offs n g ≤ r ∧ r < offs n (g + 1) := by
  have ho := Stages.offs_Offs n
  by_contra hc
  have key : ∀ g, g ≤ 9 → offs n g ≤ r := by
    intro g
    induction g with
    | zero => intro _; rw [ho.zero]; exact Nat.zero_le _
    | succ g ih =>
      intro hg
      by_contra h
      exact hc ⟨g, by omega, ih (by omega), by omega⟩
  have := key 9 le_rfl
  rw [ho.last] at this; omega

/-- What a tile's block holds after a point: each row below the point's group's end has its group's value. -/
def Done (m : (ℓ : Loc nD τ sig) → Buf (Elt Ideal) ℓ) (n : ℕ → ℕ) (c : Dev nD) (t : Fin grid0.N) (X : S512x1536.Idx → Elt Ideal .bf16) : Prop :=
  ∀ (i : Fin 512) (j : Fin 1536) (g : ℕ), g < 9 → offs n g ≤ T n t.val * 512 + i.val → T n t.val * 512 + i.val < offs n (g + 1) →
    T n t.val * 512 + i.val < offs n (G n t.val + 1) →
    X (ix2 i j) = cell (m (c, main_arg0)) (m (c, main_arg1)) (m (c, main_arg3)) (m (c, main_arg4)) (rowAt n t i) g j

include ht

theorem flush4 (t : Fin grid0.N) :
    ((cfgA m hok).win 4).flush t = true ↔ (t.val = 23 ∨ T n (t.val + 1) ≠ T n t.val) := by
  have ho : ((cfgA m hok).win 4).isOut = true := rfl
  unfold Pipeline.Window.flush
  rw [ho, Bool.true_and, Bool.or_eq_true, decide_eq_true_eq, decide_eq_true_eq]
  have hN : grid0.N = 24 := rfl
  have hN' : (cfgA m hok).grid.N = 24 := rfl
  have hlt := t.isLt
  by_cases h : t.val + 1 < grid0.N
  · refine or_congr (by omega) ⟨?_, ?_⟩
    · rintro ⟨_, hne⟩ he
      refine hne ?_
      rw [idx4 hok ht, idx4 hok ht, he]
    · intro hne
      refine ⟨h, fun he => hne ?_⟩
      rw [idx4 hok ht, idx4 hok ht] at he
      exact congrFun he 0
  · have h23 : t.val = 23 := by omega
    exact ⟨fun _ => Or.inl h23, fun _ => Or.inl (by omega)⟩

theorem leaves_done (t : Fin grid0.N) (X : S512x1536.Idx → Elt Ideal .bf16) (h : (rdat m hok c).Leaves 4 t X) : Done m n c t X := by
  obtain ⟨k, hk⟩ := t
  induction k generalizing X with
  | zero =>
    obtain ⟨Y, -, hX⟩ := h
    have hX' : X = outAt m hok c ⟨0, hk⟩ Y := hX
    intro i j g hg h1 h2 h3
    obtain ⟨f1, f2⟩ := (Stages.sched n).fresh (t := 0) (by omega) (Or.inl rfl)
    have hG : G n 0 < 9 := (Stages.sched n).group_lt (by omega)
    have h1' : offs n g ≤ T n 0 * 512 + i.val := h1
    have h2' : T n 0 * 512 + i.val < offs n (g + 1) := h2
    have h3' : T n 0 * 512 + i.val < offs n (G n 0 + 1) := h3
    have h0 : offs n (G n 0) ≤ T n 0 * 512 + i.val := by omega
    have hgG : g = G n 0 := group_unique n hg hG h1' h2' h0 h3'
    rw [hX', hgG]
    exact (outAt_at hok ht c ⟨0, hk⟩ Y i j).trans (if_pos ⟨f1, h0, h3'⟩)
  | succ k ih =>
    have hk24 : k + 1 < 24 := hk
    have hk' : k < grid0.N := Nat.lt_of_succ_lt hk
    obtain ⟨Y, hY, hX⟩ := h
    have hX' : X = outAt m hok c ⟨k + 1, hk⟩ Y := hX
    intro i j g hg h1 h2 h3
    have hG : G n (k + 1) < 9 := (Stages.sched n).group_lt hk24
    have h1' : offs n g ≤ T n (k + 1) * 512 + i.val := h1
    have h2' : T n (k + 1) * 512 + i.val < offs n (g + 1) := h2
    have h3' : T n (k + 1) * 512 + i.val < offs n (G n (k + 1) + 1) := h3
    rw [hX']
    refine (outAt_at hok ht c ⟨k + 1, hk⟩ Y i j).trans ?_
    by_cases hin : (k + 1) < cum (offs n) 9 ∧ offs n (G n (k + 1)) ≤ T n (k + 1) * 512 + i.val ∧ T n (k + 1) * 512 + i.val < offs n (G n (k + 1) + 1)
    · have hgG : g = G n (k + 1) := group_unique n hg hG h1' h2' hin.2.1 h3'
      rw [hgG]
      exact if_pos hin
    · refine (if_neg hin).trans ?_
      -- the point before is at the same tile
      have hT : T n (k + 1) = T n k := by
        by_contra hne
        obtain ⟨f1, f2⟩ := (Stages.sched n).fresh (t := k + 1) hk24 (Or.inr hne)
        exact hin ⟨f1, by omega, h3'⟩
      obtain ⟨s1, s2⟩ := (Stages.sched n).same hk24 hT
      have hf : ¬ ((cfgA m hok).win 4).flush ⟨k, hk'⟩ = true := by
        rw [flush4 hok ht]
        rintro (h | h)
        · have : k = 23 := h
          omega
        · exact h hT
      have hL : (rdat m hok c).Leaves 4 ⟨k, hk'⟩ Y :=
        (((rdat m hok c).finds_of_pos (w := 4) (t := ⟨k + 1, hk⟩) rfl (Nat.succ_ne_zero k) Y).1 hY).resolve_left hf
      have key : T n (k + 1) * 512 + i.val < offs n (G n k + 1) := by
        rcases s2 with s2 | s2
        · have : ¬ offs n (G n (k + 1)) ≤ T n (k + 1) * 512 + i.val := fun h => hin ⟨s2, h, h3'⟩
          omega
        · rw [← s2]; exact h3'
      have hrow : rowAt n ⟨k + 1, hk⟩ i = rowAt n ⟨k, hk'⟩ i := Fin.ext (by show T n (k + 1) * 512 + i.val = T n k * 512 + i.val; rw [hT])
      rw [hT] at h1' h2' key
      refine Eq.trans ?_ (congrArg (fun q => cell _ _ _ _ q g j) hrow.symm)
      exact ih Y hk' hL i j g hg h1' h2' key

/-- An element of the output has the value of its row's group. -/
def ElemOk (m : (ℓ : Loc nD τ sig) → Buf (Elt Ideal) ℓ) (n : ℕ → ℕ) (c : Dev nD) (ix : S8192x1536.Idx) (v : EReal) : Prop :=
  ∀ g, g < 9 → offs n g ≤ (ix 0).val → (ix 0).val < offs n (g + 1) →
    v = cell (m (c, main_arg0)) (m (c, main_arg1)) (m (c, main_arg3)) (m (c, main_arg4)) (ix 0) g (ix 1)

include hok ht in
/-- At a tile's last point every element of the block is right. -/
theorem block_ok (t : Fin grid0.N) (hf : ((cfgA m hok).win 4).flush t = true) (X : S512x1536.Idx → Elt Ideal .bf16)
    (hd : Done m n c t X) (y : S512x1536.Idx) : ElemOk m n c (ix2 (rowAt n t (y 0)) (y 1)) (X y) := by
  intro g hg h1 h2
  have e : X y = X (ix2 (y 0) (y 1)) := congrArg X (funext fun a => by fin_cases a <;> rfl)
  have hdone := (Stages.sched n).done (t := t.val) t.isLt ((flush4 hok ht t).1 hf)
  have hy : (y 0).val < 512 := (y 0).isLt
  rw [e]
  exact hd (y 0) (y 1) g hg h1 h2 (by omega)

theorem emb4 (t : Fin grid0.N) (y : S512x1536.Idx) :
    (((cfgA m hok).win 4).rect t).emb y = (ix2 (rowAt n t (y 0)) (y 1) : S8192x1536.Idx) := by
  refine funext fun a => Fin.ext ?_
  refine (Pipeline.Window.rect_emb_val ((cfgA m hok).win 4) t y a).trans ?_
  refine (congrArg (fun q => q * _ + _) (congrFun (idx4 hok ht t) a)).trans ?_
  fin_cases a
  · rfl
  · show 0 * 1536 + (y 1).val = (y 1).val
    omega

theorem cover4 (ix : S8192x1536.Idx) : ∃ t : Fin grid0.N, ((cfgA m hok).win 4).flush t = true ∧
    ∃ y : S512x1536.Idx, (((cfgA m hok).win 4).rect t).emb y = ix := by
  have h0 : (ix 0).val < 8192 := (ix 0).isLt
  obtain ⟨t, ht24, hT, hl⟩ := (Stages.sched n).cover (k := (ix 0).val / 512) (by omega)
  refine ⟨⟨t, ht24⟩, (flush4 hok ht ⟨t, ht24⟩).2 hl, ix2 ⟨(ix 0).val % 512, Nat.mod_lt _ (by omega)⟩ (ix 1), ?_⟩
  refine (emb4 hok ht ⟨t, ht24⟩ _).trans (funext fun a => Fin.ext ?_)
  fin_cases a
  · show T n t * 512 + (ix 0).val % 512 = (ix 0).val
    rw [hT]
    omega
  · rfl

/-- After the run every row of the output has its group's value. -/
theorem final_cell {r : PUnit × MemSt nD τ sig (Elt Ideal)} (h : RDat.FramePost (cfgA m hok) (rdat m hok) (V m) r)
    (ix : S8192x1536.Idx) : ElemOk m n c ix ((r.2.mem ((c : Thread nD τ).loc main_v55) : FVec Ideal S8192x1536 .bf16) ix) := by
  obtain ⟨after, hL, hA⟩ := RDat.FramePost.exists_exact h c
  have hA4 := hA 4
  have key := Pipeline.Dat.arrAt_forall_of_cover ((rdat m hok c).withAfter after) 4 (ElemOk m n c)
    (fun t hf y => by
      have hb := block_ok hok ht c t hf _ (leaves_done hok ht c t _ (hL 4 t hf)) y
      have he := emb4 hok ht t y
      exact (congrArg (fun q => ElemOk m n c q _) he).mpr hb)
    (fun ix => by
      obtain ⟨t, hf, y, hy⟩ := cover4 hok ht ix
      exact ⟨t, hf, Finset.mem_map.mpr ⟨y, Finset.mem_univ _, hy⟩⟩) ix
  exact (congrArg (ElemOk m n c ix) (congrFun hA4 ix)).mpr key

end Cert.KernelIdeal.Hand

end

end
-- ==== Proof.RefPayload.lean ====
/-
  THE REFERENCE'S ARITHMETIC at the ideal instance, at one element: each stage of the body read at a row and a column, its words as
  natural numbers.
-/
module

public import proofs.«01_k».proof.Proof.Gen.ReferenceIdeal
public import proofs.«01_k».proof.Proof.Gen.ReferenceIdeal.Skeleton
public import Idealize.ShloMosaic.Lib.Pointwise
public import Idealize.ShloMosaic.Lib.WordCmp
public import Idealize.ShloMosaic.Lib.Routing.BitFacts

@[expose] public section

noncomputable section

namespace Cert.ReferenceIdeal.Hand

open Cert.ReferenceIdeal Cert.ReferenceIdeal.Gen
open Idealize.ShloMosaic Idealize.ShloMosaic.TcCoe

open Facts
attribute [local instance] Cert.ReferenceIdeal.Gen.facts

theorem add_word (a b : ℕ) : Scalar.addi (BitVec.ofNat 32 a) (BitVec.ofNat 32 b) = BitVec.ofNat 32 (a + b) := (BitVec.ofNat_add a b).symm

theorem sge_word {a b : ℕ} (ha : a < 2 ^ 31) (hb : b < 2 ^ 31) :
    IntOp.cmpi .sge (BitVec.ofNat 32 a) (BitVec.ofNat 32 b) = BitVec.ofBool (decide (b ≤ a)) := by
  rw [← Routing.sle_ofNat32 hb ha]; rfl

theorem slt_word {a b : ℕ} (ha : a < 2 ^ 31) (hb : b < 2 ^ 31) :
    IntOp.cmpi .slt (BitVec.ofNat 32 a) (BitVec.ofNat 32 b) = BitVec.ofBool (decide (a < b)) := by
  rw [← Routing.slt_ofNat32 ha hb]; rfl

theorem eq_word {a b : ℕ} (ha : a < 2 ^ 31) (hb : b < 2 ^ 31) :
    IntOp.cmpi .eq (BitVec.ofNat 32 a) (BitVec.ofNat 32 b) = BitVec.ofBool (decide (a = b)) := by
  have : (BitVec.ofNat 32 a = BitVec.ofNat 32 b) ↔ a = b := by
    constructor
    · intro h
      have := congrArg BitVec.toNat h
      rw [BitVec.toNat_ofNat, BitVec.toNat_ofNat, Nat.mod_eq_of_lt (by omega), Nat.mod_eq_of_lt (by omega)] at this
      exact this
    · rintro rfl; rfl
  show BitVec.ofBool (BitVec.ofNat 32 a == BitVec.ofNat 32 b) = _
  congr 1
  by_cases h : a = b
  · subst h; simp
  · simp only [h, decide_false, beq_eq_false_iff_ne, ne_eq, this, not_false_eq_true]

theorem sel_one {α : Type} {p : Prop} [Decidable p] (a b : α) : Scalar.select (BitVec.ofBool (decide p)) a b = if p then a else b := by
  by_cases h : p
  · simp only [h, decide_true, if_true]; rfl
  · simp only [h, decide_false, if_false]; rfl

theorem sel_and {α : Type} {p q : Prop} [Decidable p] [Decidable q] (a b : α) :
    Scalar.select (IntOp.andi (BitVec.ofBool (decide p)) (BitVec.ofBool (decide q))) a b = if p ∧ q then a else b := by
  by_cases h : p <;> by_cases h' : q <;> simp only [h, h', decide_true, decide_false, and_true, and_false, if_true, if_false] <;> rfl

/-- One masked product: kept where the row's group is `g` and the row is before the last group's end. -/
theorem sel_mask {e g r T : ℕ} (he : e < 8) (hg : g < 8) (hr : r < 8192) (hT : T < 2 ^ 31) (a b : EReal) :
    Scalar.select (IntOp.andi (IntOp.cmpi .eq (BitVec.ofNat 32 e) (BitVec.ofNat 32 g)) (IntOp.cmpi .slt (BitVec.ofNat 32 r) (BitVec.ofNat 32 T))) a b
      = if e = g ∧ r < T then a else b := by
  rw [eq_word (by omega) (by omega), slt_word (by omega) hT, sel_and]

theorem sel_eq {α : Type} {e g : ℕ} (he : e < 8) (hg : g < 8) (a b : α) :
    Scalar.select (IntOp.cmpi .eq (BitVec.ofNat 32 e) (BitVec.ofNat 32 g)) a b = if e = g then a else b := by
  rw [eq_word (by omega) (by omega), sel_one]

theorem sel_ge {a b : ℕ} (ha : a < 2 ^ 31) (hb : b < 2 ^ 31) (x y : ℕ) :
    Scalar.select (IntOp.cmpi .sge (BitVec.ofNat 32 a) (BitVec.ofNat 32 b)) (BitVec.ofNat 32 x) (BitVec.ofNat 32 y)
      = BitVec.ofNat 32 (if b ≤ a then x else y) := by
  rw [sge_word ha hb, sel_one]
  split <;> rfl

/-- The last of the first seven groups that starts at or before row `r`. -/
def e6 (c1 c2 c3 c4 c5 c6 r : ℕ) : ℕ :=
  if c6 ≤ r then 6 else if c5 ≤ r then 5 else if c4 ≤ r then 4 else if c3 ≤ r then 3 else if c2 ≤ r then 2 else if c1 ≤ r then 1 else 0

theorem pay2_at {a0 a1 a2 a3 a4 a5 : ℕ} (h0 : a0 < 2 ^ 28) (h1 : a1 < 2 ^ 28) (h2 : a2 < 2 ^ 28) (h3 : a3 < 2 ^ 28) (h4 : a4 < 2 ^ 28)
    (h5 : a5 < 2 ^ 28) (r : Fin 8192) :
    k0_pay2 (F := Ideal) (BitVec.ofNat 32 a0) (BitVec.ofNat 32 a1) (BitVec.ofNat 32 a2) (BitVec.ofNat 32 a3) (BitVec.ofNat 32 a4)
        (BitVec.ofNat 32 a5) (ix2 r 0)
      = BitVec.ofNat 32 (e6 a0 (a0 + a1) (a0 + a1 + a2) (a0 + a1 + a2 + a3) (a0 + a1 + a2 + a3 + a4) (a0 + a1 + a2 + a3 + a4 + a5) r.val) := by
  have hr := r.isLt
  pointwise [k0_pay2]
  simp only [add_word, Nat.zero_add]
  rw [sel_ge (by omega) (by omega), sel_ge (by omega) (by omega), sel_ge (by omega) (by omega), sel_ge (by omega) (by omega),
    sel_ge (by omega) (by omega), sel_ge (by omega) (by omega)]
  rfl

theorem pay3_at {c a6 e : ℕ} (hc : c + a6 < 2 ^ 31) (v0 v41 : IVec S8192x1 32) (r : Fin 8192) (hv0 : v0 (ix2 r 0) = BitVec.ofNat 32 r.val)
    (hv : v41 (ix2 r 0) = BitVec.ofNat 32 e) :
    k0_pay3 (F := Ideal) v0 (BitVec.ofNat 32 c) v41 (BitVec.ofNat 32 a6) (ix2 r 0) = BitVec.ofNat 32 (if c + a6 ≤ r.val then 7 else e) := by
  have hr := r.isLt
  pointwise [k0_pay3]
  rw [hv0, hv, add_word, sel_ge (by omega) (by omega)]

theorem pay4_at {c a6 a7 e : ℕ} (hc : c + a6 + a7 < 2 ^ 31) (he : e < 8) (v0 v41 : IVec S8192x1 32) (r : Fin 8192)
    (hv0 : v0 (ix2 r 0) = BitVec.ofNat 32 r.val)
    (hv : k0_pay3 (F := Ideal) v0 (BitVec.ofNat 32 c) v41 (BitVec.ofNat 32 a6) (ix2 r 0) = BitVec.ofNat 32 e)
    (x y : Vec Ideal S8192x2048 .fp8e4m3) (w w' : Vec Ideal S1x2048x1536 .fp8e4m3) (j : Fin 1536) :
    k0_pay4 (F := Ideal) v0 (BitVec.ofNat 32 c) v41 (BitVec.ofNat 32 a6) (BitVec.ofNat 32 a7) x w y w' (ix2 r j)
      = (if e = 0 ∧ r.val < c + a6 + a7 then ∑ k : Fin 2048, x (ix2 r k) * w (ix3 0 k j) else (0 : EReal))
        + (if e = 1 ∧ r.val < c + a6 + a7 then ∑ k : Fin 2048, y (ix2 r k) * w' (ix3 0 k j) else (0 : EReal)) := by
  have hr := r.isLt
  pointwise [k0_pay4]
  rw [hv0, hv, add_word, add_word, sel_mask he (by omega) hr hc, sel_mask he (by omega) hr hc]

section Rest

variable {e T : ℕ} (he : e < 8) (hT : T < 2 ^ 31) (v0 v47 : IVec S8192x1 32) (r : Fin 8192)
  (hv0 : v0 (ix2 r 0) = BitVec.ofNat 32 r.val) (hv : v47 (ix2 r 0) = BitVec.ofNat 32 e)
  (x y : Vec Ideal S8192x2048 .fp8e4m3) (w w' : Vec Ideal S1x2048x1536 .fp8e4m3) (j : Fin 1536)

include he hT hv0 hv in
theorem pay5_at (v78 : FVec Ideal S8192x1536 .f32) :
    k0_pay5 (F := Ideal) v0 v47 (BitVec.ofNat 32 T) v78 x w y w' (ix2 r j)
      = (v78 (ix2 r j) + (if e = 2 ∧ r.val < T then ∑ k : Fin 2048, x (ix2 r k) * w (ix3 0 k j) else (0 : EReal)))
        + (if e = 3 ∧ r.val < T then ∑ k : Fin 2048, y (ix2 r k) * w' (ix3 0 k j) else (0 : EReal)) := by
  have hr := r.isLt
  pointwise [k0_pay5]
  rw [hv0, hv, sel_mask he (by omega) hr hT, sel_mask he (by omega) hr hT]

include he hT hv0 hv in
theorem pay6_at :
    k0_pay6 (F := Ideal) v0 v47 (BitVec.ofNat 32 T) x w (ix2 r j)
      = (if e = 4 ∧ r.val < T then ∑ k : Fin 2048, x (ix2 r k) * w (ix3 0 k j) else (0 : EReal)) := by
  have hr := r.isLt
  pointwise [k0_pay6]
  rw [hv0, hv, sel_mask he (by omega) hr hT]

include he hT hv0 hv in
theorem pay7_at (v106 v119 : FVec Ideal S8192x1536 .f32) :
    k0_pay7 (F := Ideal) v0 v47 (BitVec.ofNat 32 T) v106 v119 x w y w' (ix2 r j)
      = ((v106 (ix2 r j) + v119 (ix2 r j)) + (if e = 5 ∧ r.val < T then ∑ k : Fin 2048, x (ix2 r k) * w (ix3 0 k j) else (0 : EReal)))
        + (if e = 6 ∧ r.val < T then ∑ k : Fin 2048, y (ix2 r k) * w' (ix3 0 k j) else (0 : EReal)) := by
  have hr := r.isLt
  pointwise [k0_pay7]
  rw [hv0, hv, sel_mask he (by omega) hr hT, sel_mask he (by omega) hr hT]

include he hT hv0 hv in
theorem pay11_at (v148 : FVec Ideal S8192x1536 .f32) :
    k0_pay11 (F := Ideal) v148 (k0_pay8 x w) (k0_pay9 v47) (k0_pay10 v0 (BitVec.ofNat 32 T)) (ix2 r j)
      = v148 (ix2 r j) + (if e = 7 ∧ r.val < T then ∑ k : Fin 2048, x (ix2 r k) * w (ix3 0 k j) else (0 : EReal)) := by
  have hr := r.isLt
  pointwise [k0_pay11, k0_pay8, k0_pay9, k0_pay10]
  rw [hv0, hv, sel_mask he (by omega) hr hT]

include he hv in
theorem pay12_at (s0 s1 s2 s3 : Vec Ideal S1x1536 .f32) :
    k0_pay12 (F := Ideal) v47 s0 s1 s2 s3 (ix2 r j)
      = if e = 3 then s3 (ix2 0 j) else if e = 2 then s2 (ix2 0 j) else if e = 1 then s1 (ix2 0 j) else if e = 0 then s0 (ix2 0 j)
        else (0 : EReal) := by
  pointwise [k0_pay12]
  rw [hv, sel_eq he (by omega), sel_eq he (by omega), sel_eq he (by omega), sel_eq he (by omega)]

include he hv in
theorem pay1_at (v162 v195 : FVec Ideal S8192x1536 .f32) (s4 s5 s6 s7 : Vec Ideal S1x1536 .f32) (xs : Vec Ideal S8192x1 .f32) :
    k0_pay1 (F := Ideal) v47 v162 v195 s4 (k0_pay13 v47) s5 s6 s7 xs (ix2 r j)
      = (v162 (ix2 r j) * xs (ix2 r 0)) * (if e = 7 then s7 (ix2 0 j) else if e = 6 then s6 (ix2 0 j) else if e = 5 then s5 (ix2 0 j)
          else if e = 4 then s4 (ix2 0 j) else (v195 (ix2 r j) : EReal)) := by
  pointwise [k0_pay1, k0_pay13]
  rw [hv, sel_eq he (by omega), sel_eq he (by omega), sel_eq he (by omega), sel_eq he (by omega)]

end Rest

end Cert.ReferenceIdeal.Hand

end

end
-- ==== Proof.RefValue.lean ====
/-
  THE REFERENCE'S RESULT: the one block its one point writes back is the whole array, its payload over the argument arrays.
-/
module

public import proofs.«01_k».proof.Proof.RefPayload
public import proofs.«01_k».proof.Proof.Gen.ReferenceIdeal.Value

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

open Facts
attribute [local instance] Cert.ReferenceIdeal.Gen.facts

/-- The body's result from its inputs. -/
def refPay (g : Fin 8 → BitVec 32) (x : Vec Ideal S8192x2048 .fp8e4m3) (xs : Vec Ideal S8192x1 .f32) (w : Fin 8 → Vec Ideal S1x2048x1536 .fp8e4m3)
    (ws : Fin 8 → Vec Ideal S1x1536 .f32) : FVec Ideal S8192x1536 .bf16 :=
  let v0 : IVec S8192x1 32 := iota .tc S8192x1 32 [0] iota_S8192x1_d0_w32
  let v37 : BitVec 32 := Scalar.addi (Scalar.addi (Scalar.addi (Scalar.addi (Scalar.addi (Scalar.addi 0#32 (g 0)) (g 1)) (g 2)) (g 3)) (g 4)) (g 5)
  let v41 := k0_pay2 (F := Ideal) (g 0) (g 1) (g 2) (g 3) (g 4) (g 5)
  let v47 := k0_pay3 (F := Ideal) v0 v37 v41 (g 6)
  let v49 : BitVec 32 := Scalar.addi (Scalar.addi v37 (g 6)) (g 7)
  let v78 := k0_pay4 (F := Ideal) v0 v37 v41 (g 6) (g 7) x (w 0) x (w 1)
  let v106 := k0_pay5 (F := Ideal) v0 v47 v49 v78 x (w 2) x (w 3)
  let v119 := k0_pay6 (F := Ideal) v0 v47 v49 x (w 4)
  let v148 := k0_pay7 (F := Ideal) v0 v47 v49 v106 v119 x (w 5) x (w 6)
  let v162 := k0_pay11 (F := Ideal) v148 (k0_pay8 x (w 7)) (k0_pay9 v47) (k0_pay10 v0 v49)
  k0_pay1 (F := Ideal) v47 v162 (k0_pay12 (F := Ideal) v47 (ws 0) (ws 1) (ws 2) (ws 3)) (ws 4) (k0_pay13 v47) (ws 5) (ws 6) (ws 7) xs

theorem ld_size (x : Vec Ideal S8 .i32) {n : ℕ} (g : Fin 8) (h : n = g.val) (hin) (hn) :
    View.ld x (Rect.unit ![n] ![1] hin) (Shape.Idx.first hn) = x (ix1 g) := by
  subst h
  refine congrArg x (funext fun a => Fin.ext ?_)
  fin_cases a
  show g.val + 1 * 0 = g.val
  omega

theorem ld_code (x : Vec Ideal S8x2048x1536 .fp8e4m3) {n : ℕ} (g : Fin 8) (h : n = g.val) (hin) :
    (View.ld x (Rect.unit ![n, 0, 0] ![1, 2048, 1536] hin) : Vec Ideal S1x2048x1536 .fp8e4m3) = fun i => x (ix3 g (i 1) (i 2)) := by
  subst h
  refine funext fun i => congrArg x (funext fun a => Fin.ext ?_)
  have h0 : (i 0).val < 1 := (i 0).isLt
  fin_cases a
  · show g.val + 1 * (i 0).val = g.val
    omega
  · show 0 + 1 * (i 1).val = (i 1).val
    omega
  · show 0 + 1 * (i 2).val = (i 2).val
    omega

theorem ld_scale (x : Vec Ideal S8x1536 .f32) {n : ℕ} (g : Fin 8) (h : n = g.val) (hin) :
    (View.ld x (Rect.unit ![n, 0] ![1, 1536] hin) : Vec Ideal S1x1536 .f32) = fun i => x (ix2 g (i 1)) := by
  subst h
  refine funext fun i => congrArg x (funext fun a => Fin.ext ?_)
  have h0 : (i 0).val < 1 := (i 0).isLt
  fin_cases a
  · show g.val + 1 * (i 0).val = g.val
    omega
  · show 0 + 1 * (i 1).val = (i 1).val
    omega

/-- The whole-buffer loads read the buffers, a word load reads a size, a slab load reads one expert's codes or scales, and the one store
    leaves its payload. -/
theorem out_eq (c : Dev nD) (arg0 : Memref sig .tc .smem S8 .i32) (harg0 : arg0.IsWhole) (arg1 : Memref sig .tc .vmem S8192x2048 .fp8e4m3) (harg1 : arg1.IsWhole) (arg2 : Memref sig .tc .vmem S8192x1 .f32) (harg2 : arg2.IsWhole) (arg3 : Memref sig .tc .vmem S8x2048x1536 .fp8e4m3) (harg3 : arg3.IsWhole) (arg4 : Memref sig .tc .vmem S8x1536 .f32) (harg4 : arg4.IsWhole) (arg5 : Memref sig .tc .vmem S8192x1536 .bf16) (harg5 : arg5.IsWhole)
    (x0 : Vec Ideal S8 .i32) (x1 : Vec Ideal S8192x2048 .fp8e4m3) (x2 : Vec Ideal S8192x1 .f32) (x3 : Vec Ideal S8x2048x1536 .fp8e4m3) (x4 : Vec Ideal S8x1536 .f32) :
    out0_A_5 c arg0 harg0 arg1 harg1 arg2 harg2 arg3 harg3 arg4 harg4 arg5 harg5 x0 x1 x2 x3 x4
      = refPay (fun i => x0 (ix1 i)) x1 x2 (fun g i => x3 (ix3 g (i 1) (i 2))) (fun g i => x4 (ix2 g (i 1))) := by
  have hz : (![0, 0] : Fin S8192x1536.rank → Nat) = fun _ => 0 := funext fun a => by fin_cases a <;> rfl
  have hz1 : (![0, 0] : Fin S8192x2048.rank → Nat) = fun _ => 0 := funext fun a => by fin_cases a <;> rfl
  have hz2 : (![0, 0] : Fin S8192x1.rank → Nat) = fun _ => 0 := funext fun a => by fin_cases a <;> rfl
  unfold out0_A_5
  rw [View.read_writes_eq_canon _ _ _ (cover0_A_5 c arg0 harg0 arg1 harg1 arg2 harg2 arg3 harg3 arg4 harg4 arg5 harg5 x0 x1 x2 x3 x4)]
  unfold kernelRun0_A
  dsimp only
  sl_unfold_words
  rw [View.canon_cons_unit_zero (S := S8192x1536) hz]
  simp only [View.readAt_eq_ld, harg1.read_unread, harg2.read_unread, harg3.read_unread, harg4.read_unread, harg0.read_unread, View.ld_unit_zero (S := S8192x2048) hz1,
    View.ld_unit_zero (S := S8192x1) hz2]
  simp only [ld_size x0 (n := 0) 0 rfl, ld_size x0 (n := 1) 1 rfl, ld_size x0 (n := 2) 2 rfl, ld_size x0 (n := 3) 3 rfl, ld_size x0 (n := 4) 4 rfl, ld_size x0 (n := 5) 5 rfl, ld_size x0 (n := 6) 6 rfl, ld_size x0 (n := 7) 7 rfl, ld_code x3 (n := 0) 0 rfl, ld_code x3 (n := 1) 1 rfl, ld_code x3 (n := 2) 2 rfl, ld_code x3 (n := 3) 3 rfl, ld_code x3 (n := 4) 4 rfl, ld_code x3 (n := 5) 5 rfl, ld_code x3 (n := 6) 6 rfl, ld_code x3 (n := 7) 7 rfl, ld_scale x4 (n := 0) 0 rfl, ld_scale x4 (n := 1) 1 rfl, ld_scale x4 (n := 2) 2 rfl, ld_scale x4 (n := 3) 3 rfl, ld_scale x4 (n := 4) 4 rfl, ld_scale x4 (n := 5) 5 rfl, ld_scale x4 (n := 6) 6 rfl, ld_scale x4 (n := 7) 7 rfl]
  rfl

variable (m : (ℓ : Loc nD τ sig) → Buf (Elt Ideal) ℓ) (c : Dev nD)

/-- The one grid point. -/
def t₀ : Fin cfg0.N := ⟨0, by decide⟩

/-- The result array after the run. -/
theorem final_value :
    ((dats m 0 c).arrAt 5 cfg0.N : FVec Ideal S8192x1536 .bf16)
      = refPay (fun i => (m ((c : Thread nD τ).loc main_arg2) : Vec Ideal S8 .i32) (ix1 i)) (m ((c : Thread nD τ).loc main_arg0))
          (m ((c : Thread nD τ).loc main_arg1))
          (fun g i => (m ((c : Thread nD τ).loc main_arg3) : Vec Ideal S8x2048x1536 .fp8e4m3) (ix3 g (i 1) (i 2)))
          (fun g i => (m ((c : Thread nD τ).loc main_arg4) : Vec Ideal S8x1536 .f32) (ix2 g (i 1))) := by
  have ho := Value.blocks5 m c t₀ (by decide)
  have hz5 : (fun a => (win0_5.index t₀) a * main_v0.ty.shape.size a) = fun _ => 0 := funext fun a => by fin_cases a <;> decide
  have hr5 := fun f => Memref.read_access_unit_zero (Elt Ideal) main_v0 hz5 (fun a => by fin_cases a <;> decide) f
  have hz0 : (fun a => (win0_0.index t₀) a * main_arg2.ty.shape.size a) = fun _ => 0 := funext fun a => by fin_cases a <;> decide
  have hr0 := fun f => Memref.read_access_unit_zero (Elt Ideal) main_arg2 hz0 (fun a => by fin_cases a <;> decide) f
  have hz1 : (fun a => (win0_1.index t₀) a * main_arg0.ty.shape.size a) = fun _ => 0 := funext fun a => by fin_cases a <;> decide
  have hr1 := fun f => Memref.read_access_unit_zero (Elt Ideal) main_arg0 hz1 (fun a => by fin_cases a <;> decide) f
  have hz2 : (fun a => (win0_2.index t₀) a * main_arg1.ty.shape.size a) = fun _ => 0 := funext fun a => by fin_cases a <;> decide
  have hr2 := fun f => Memref.read_access_unit_zero (Elt Ideal) main_arg1 hz2 (fun a => by fin_cases a <;> decide) f
  have hz3 : (fun a => (win0_3.index t₀) a * main_arg3.ty.shape.size a) = fun _ => 0 := funext fun a => by fin_cases a <;> decide
  have hr3 := fun f => Memref.read_access_unit_zero (Elt Ideal) main_arg3 hz3 (fun a => by fin_cases a <;> decide) f
  have hz4 : (fun a => (win0_4.index t₀) a * main_arg4.ty.shape.size a) = fun _ => 0 := funext fun a => by fin_cases a <;> decide
  have hr4 := fun f => Memref.read_access_unit_zero (Elt Ideal) main_arg4 hz4 (fun a => by fin_cases a <;> decide) f
  rw [hr5] at ho
  rw [ho]
  show (cfg0.win 5).cut _ ((dats m 0 c).after 5 t₀) = _
  rw [after0_5]
  unfold outsAt0
  rw [out_eq]
  unfold iblk
  rw [hr0, hr1, hr2, hr3, hr4]
  rfl

end Cert.ReferenceIdeal.Hand

end

end
-- ==== Proof.RefCell.lean ====
/-
  THE REFERENCE'S RESULT AT AN ELEMENT: the row's expert is the last one whose rows start at or before the row, and of the eight masked
  products only that expert's is not zero.
-/
module

public import proofs.«01_k».proof.Proof.RefValue

@[expose] public section

set_option maxRecDepth 16384

noncomputable section

namespace Cert.ReferenceIdeal.Hand

open Cert.ReferenceIdeal Cert.ReferenceIdeal.Gen
open Idealize.ShloMosaic Idealize.ShloMosaic.TcCoe

open Facts
attribute [local instance] Cert.ReferenceIdeal.Gen.facts

/-- The expert of row `r`, from the eight sizes. -/
def expert (n : ℕ → ℕ) (r : ℕ) : ℕ :=
  if n 0 + n 1 + n 2 + n 3 + n 4 + n 5 + n 6 ≤ r then 7
  else e6 (n 0) (n 0 + n 1) (n 0 + n 1 + n 2) (n 0 + n 1 + n 2 + n 3) (n 0 + n 1 + n 2 + n 3 + n 4) (n 0 + n 1 + n 2 + n 3 + n 4 + n 5) r

/-- The end of the last group. -/
def total (n : ℕ → ℕ) : ℕ := n 0 + n 1 + n 2 + n 3 + n 4 + n 5 + n 6 + n 7

theorem expert_lt (n : ℕ → ℕ) (r : ℕ) : expert n r < 8 := by
  unfold expert e6
  split_ifs <;> omega

theorem iota_at (r : Fin 8192) : (iota .tc S8192x1 32 [0] iota_S8192x1_d0_w32 : IVec S8192x1 32) (ix2 r 0) = BitVec.ofNat 32 r.val := by
  pointwise

/-- One masked product. -/
def term (x : Vec Ideal S8192x2048 .fp8e4m3) (w : Fin 8 → Vec Ideal S1x2048x1536 .fp8e4m3) (n : ℕ → ℕ) (r : Fin 8192) (j : Fin 1536) (g : Fin 8) : EReal :=
  if expert n r.val = g.val ∧ r.val < total n then ∑ k : Fin 2048, x (ix2 r k) * w g (ix3 0 k j) else 0

theorem refPay_raw (n : ℕ → ℕ) (hn : ∀ i, i < 8 → n i < 2 ^ 28) (x : Vec Ideal S8192x2048 .fp8e4m3) (xs : Vec Ideal S8192x1 .f32)
    (w : Fin 8 → Vec Ideal S1x2048x1536 .fp8e4m3) (ws : Fin 8 → Vec Ideal S1x1536 .f32) (r : Fin 8192) (j : Fin 1536) :
    refPay (fun i => BitVec.ofNat 32 (n i.val)) x xs w ws (ix2 r j)
      = ((((((((term x w n r j 0 + term x w n r j 1) + term x w n r j 2) + term x w n r j 3) + term x w n r j 4) + term x w n r j 5)
          + term x w n r j 6) + term x w n r j 7) * xs (ix2 r 0))
        * (if expert n r.val = 7 then ws 7 (ix2 0 j) else if expert n r.val = 6 then ws 6 (ix2 0 j) else if expert n r.val = 5 then ws 5 (ix2 0 j)
          else if expert n r.val = 4 then ws 4 (ix2 0 j) else if expert n r.val = 3 then ws 3 (ix2 0 j) else if expert n r.val = 2 then ws 2 (ix2 0 j)
          else if expert n r.val = 1 then ws 1 (ix2 0 j) else if expert n r.val = 0 then ws 0 (ix2 0 j) else (0 : EReal)) := by
  have h0 := hn 0 (by omega)
  have h1 := hn 1 (by omega)
  have h2 := hn 2 (by omega)
  have h3 := hn 3 (by omega)
  have h4 := hn 4 (by omega)
  have h5 := hn 5 (by omega)
  have h6 := hn 6 (by omega)
  have h7 := hn 7 (by omega)
  have hv0 := iota_at r
  have hv41 := pay2_at h0 h1 h2 h3 h4 h5 r
  have e37 : Scalar.addi (Scalar.addi (Scalar.addi (Scalar.addi (Scalar.addi (Scalar.addi 0#32 (BitVec.ofNat 32 (n 0))) (BitVec.ofNat 32 (n 1)))
      (BitVec.ofNat 32 (n 2))) (BitVec.ofNat 32 (n 3))) (BitVec.ofNat 32 (n 4))) (BitVec.ofNat 32 (n 5))
      = BitVec.ofNat 32 (n 0 + n 1 + n 2 + n 3 + n 4 + n 5) := by
    simp only [add_word, Nat.zero_add]
  have hv47 := pay3_at (c := n 0 + n 1 + n 2 + n 3 + n 4 + n 5) (a6 := n 6) (by omega) _ _ r hv0 hv41
  have e49 : Scalar.addi (Scalar.addi (BitVec.ofNat 32 (n 0 + n 1 + n 2 + n 3 + n 4 + n 5)) (BitVec.ofNat 32 (n 6))) (BitVec.ofNat 32 (n 7))
      = BitVec.ofNat 32 (total n) := by
    simp only [add_word]; rfl
  have hT : total n < 2 ^ 31 := by unfold total; omega
  have he := expert_lt n r.val
  have hv47' : k0_pay3 (F := Ideal) (iota .tc S8192x1 32 [0] iota_S8192x1_d0_w32) (BitVec.ofNat 32 (n 0 + n 1 + n 2 + n 3 + n 4 + n 5))
      (k0_pay2 (F := Ideal) (BitVec.ofNat 32 (n 0)) (BitVec.ofNat 32 (n 1)) (BitVec.ofNat 32 (n 2)) (BitVec.ofNat 32 (n 3)) (BitVec.ofNat 32 (n 4))
        (BitVec.ofNat 32 (n 5))) (BitVec.ofNat 32 (n 6)) (ix2 r 0) = BitVec.ofNat 32 (expert n r.val) := hv47
  unfold refPay
  dsimp only [Fin.val_zero, Fin.val_one]
  simp only [show ((2 : Fin 8) : ℕ) = 2 from rfl, show ((3 : Fin 8) : ℕ) = 3 from rfl, show ((4 : Fin 8) : ℕ) = 4 from rfl,
    show ((5 : Fin 8) : ℕ) = 5 from rfl, show ((6 : Fin 8) : ℕ) = 6 from rfl, show ((7 : Fin 8) : ℕ) = 7 from rfl, Fin.val_zero, Fin.val_one]
  rw [e37, e49]
  rw [pay1_at he _ r hv47' j, pay11_at he hT _ _ r hv0 hv47', pay7_at he hT _ _ r hv0 hv47', pay6_at he hT _ _ r hv0 hv47',
    pay5_at he hT _ _ r hv0 hv47', pay4_at (by omega) he _ _ r hv0 hv47', pay12_at he _ r hv47' j]
  rfl

theorem refPay_at (n : ℕ → ℕ) (hn : ∀ i, i < 8 → n i < 2 ^ 28) (x : Vec Ideal S8192x2048 .fp8e4m3) (xs : Vec Ideal S8192x1 .f32)
    (w : Fin 8 → Vec Ideal S1x2048x1536 .fp8e4m3) (ws : Fin 8 → Vec Ideal S1x1536 .f32) (r : Fin 8192) (j : Fin 1536) :
    refPay (fun i => BitVec.ofNat 32 (n i.val)) x xs w ws (ix2 r j)
      = ((if r.val < total n then ∑ k : Fin 2048, x (ix2 r k) * w ⟨expert n r.val, expert_lt n r.val⟩ (ix3 0 k j) else (0 : EReal)) * xs (ix2 r 0))
        * ws ⟨expert n r.val, expert_lt n r.val⟩ (ix2 0 j) := by
  rw [refPay_raw n hn]
  unfold term
  have key : ∀ (e : ℕ) (he : e < 8) (p : Prop) [Decidable p] (s : Fin 8 → EReal) (z : Fin 8 → EReal) (q : EReal),
      (((((((((if e = (0 : Fin 8).val ∧ p then s 0 else 0) + (if e = (1 : Fin 8).val ∧ p then s 1 else 0)) + (if e = (2 : Fin 8).val ∧ p then s 2 else 0))
        + (if e = (3 : Fin 8).val ∧ p then s 3 else 0)) + (if e = (4 : Fin 8).val ∧ p then s 4 else 0)) + (if e = (5 : Fin 8).val ∧ p then s 5 else 0))
          + (if e = (6 : Fin 8).val ∧ p then s 6 else 0)) + (if e = (7 : Fin 8).val ∧ p then s 7 else 0)) * q)
        * (if e = 7 then z 7 else if e = 6 then z 6 else if e = 5 then z 5
          else if e = 4 then z 4 else if e = 3 then z 3 else if e = 2 then z 2
          else if e = 1 then z 1 else if e = 0 then z 0 else (0 : EReal))
      = ((if p then s ⟨e, he⟩ else 0) * q) * z ⟨e, he⟩ := by
    intro e he p _ s z q
    interval_cases e <;> by_cases hp : p <;> simp [hp]
  exact key (expert n r.val) (expert_lt n r.val) (r.val < total n) (fun g => ∑ k : Fin 2048, x (ix2 r k) * w g (ix3 0 k j))
    (fun g => ws g (ix2 0 j)) (xs (ix2 r 0))

end Cert.ReferenceIdeal.Hand

end

end
-- ==== Proof.Algebra.lean ====
/-
  THE VALUE CLAIM: the kernel's output and the reference's output are one array. A row of group `g` holds, on both sides, its product with
  expert `g`'s codes times its own scale times that expert's scales; a row past the last group holds zero.
-/
module

public import proofs.«01_k».proof.Proof.Value
public import proofs.«01_k».proof.Proof.RefCell

@[expose] public section

noncomputable section

namespace Cert.Algebra

open Idealize.ShloMosaic Idealize.ShloMosaic.TcCoe Idealize.SL.Sem
open Cert.KernelIdeal.Stages (Sizes offs run run_succ)
open Cert.KernelIdeal.Hand (cell)
open Cert.ReferenceIdeal.Hand (refPay expert total expert_lt refPay_at)

/-- The reference's array from the five argument arrays. -/
def result (a0 : FVec Ideal Cert.KernelIdeal.S8192x2048 .fp8e4m3) (a1 : FVec Ideal Cert.KernelIdeal.S8192x1 .f32) (gs : IVec Cert.KernelIdeal.S8 32)
    (a3 : FVec Ideal Cert.KernelIdeal.S8x2048x1536 .fp8e4m3) (a4 : FVec Ideal Cert.KernelIdeal.S8x1536 .f32) :
    FVec Ideal Cert.KernelIdeal.S8192x1536 .bf16 :=
  refPay (fun i => gs (ix1 i)) a0 a1 (fun g i => a3 (ix3 g (i 1) (i 2))) (fun g i => a4 (ix2 g (i 1)))

theorem runs (n : ℕ → ℕ) : run n 0 = 0 ∧ run n 1 = n 0 ∧ run n 2 = n 0 + n 1 ∧ run n 3 = n 0 + n 1 + n 2 ∧ run n 4 = n 0 + n 1 + n 2 + n 3
    ∧ run n 5 = n 0 + n 1 + n 2 + n 3 + n 4 ∧ run n 6 = n 0 + n 1 + n 2 + n 3 + n 4 + n 5 ∧ run n 7 = n 0 + n 1 + n 2 + n 3 + n 4 + n 5 + n 6
    ∧ run n 8 = total n := by
  have h0 : run n 0 = 0 := rfl
  have h1 := run_succ n 0
  have h2 := run_succ n 1
  have h3 := run_succ n 2
  have h4 := run_succ n 3
  have h5 := run_succ n 4
  have h6 := run_succ n 5
  have h7 := run_succ n 6
  have h8 := run_succ n 7
  unfold total
  norm_num at h1 h2 h3 h4 h5 h6 h7 h8
  omega

theorem nest {c1 c2 c3 c4 c5 c6 c7 r g : ℕ} (h12 : c1 ≤ c2) (h23 : c2 ≤ c3) (h34 : c3 ≤ c4) (h45 : c4 ≤ c5) (h56 : c5 ≤ c6) (h67 : c6 ≤ c7)
    (h : (g = 0 ∧ r < c1) ∨ (g = 1 ∧ c1 ≤ r ∧ r < c2) ∨ (g = 2 ∧ c2 ≤ r ∧ r < c3) ∨ (g = 3 ∧ c3 ≤ r ∧ r < c4) ∨ (g = 4 ∧ c4 ≤ r ∧ r < c5)
      ∨ (g = 5 ∧ c5 ≤ r ∧ r < c6) ∨ (g = 6 ∧ c6 ≤ r ∧ r < c7) ∨ (g = 7 ∧ c7 ≤ r)) :
    (if c7 ≤ r then 7 else Cert.ReferenceIdeal.Hand.e6 c1 c2 c3 c4 c5 c6 r) = g := by
  unfold Cert.ReferenceIdeal.Hand.e6
  split_ifs <;> omega

/-- A row of one of the eight groups has that group's expert and is before the last group's end. -/
theorem expert_in (n : ℕ → ℕ) {g r : ℕ} (hg : g < 8) (h1 : run n g ≤ r) (h2 : r < run n (g + 1)) : expert n r = g ∧ r < total n := by
  obtain ⟨e0, e1, e2, e3, e4, e5, e6, e7, e8⟩ := runs n
  have s1 := run_succ n 0
  have s2 := run_succ n 1
  have s3 := run_succ n 2
  have s4 := run_succ n 3
  have s5 := run_succ n 4
  have s6 := run_succ n 5
  have s7 := run_succ n 6
  have s8 := run_succ n 7
  norm_num at s1 s2 s3 s4 s5 s6 s7 s8
  constructor
  · unfold expert
    rw [← e7, ← e6, ← e5, ← e4, ← e3, ← e2, ← e1]
    clear e0 e1 e2 e3 e4 e5 e6 e7 e8
    refine nest (by omega) (by omega) (by omega) (by omega) (by omega) (by omega) ?_
    have hc : g = 0 ∨ g = 1 ∨ g = 2 ∨ g = 3 ∨ g = 4 ∨ g = 5 ∨ g = 6 ∨ g = 7 := by omega
    rcases hc with h | h | h | h | h | h | h | h
    · subst h; exact Or.inl ⟨rfl, h2⟩
    · subst h; exact Or.inr (Or.inl ⟨rfl, h1, h2⟩)
    · subst h; exact Or.inr (Or.inr (Or.inl ⟨rfl, h1, h2⟩))
    · subst h; exact Or.inr (Or.inr (Or.inr (Or.inl ⟨rfl, h1, h2⟩)))
    · subst h; exact Or.inr (Or.inr (Or.inr (Or.inr (Or.inl ⟨rfl, h1, h2⟩))))
    · subst h; exact Or.inr (Or.inr (Or.inr (Or.inr (Or.inr (Or.inl ⟨rfl, h1, h2⟩)))))
    · subst h; exact Or.inr (Or.inr (Or.inr (Or.inr (Or.inr (Or.inr (Or.inl ⟨rfl, h1, h2⟩))))))
    · subst h; exact Or.inr (Or.inr (Or.inr (Or.inr (Or.inr (Or.inr (Or.inr ⟨rfl, h1⟩))))))
  · rw [← e8]
    clear e0 e1 e2 e3 e4 e5 e6 e7 e8
    have hc : g = 0 ∨ g = 1 ∨ g = 2 ∨ g = 3 ∨ g = 4 ∨ g = 5 ∨ g = 6 ∨ g = 7 := by omega
    rcases hc with h | h | h | h | h | h | h | h <;> (subst h; norm_num at h2; omega)

theorem result_cell {n : ℕ → ℕ} {gs : IVec Cert.KernelIdeal.S8 32} (hs : Sizes n gs)
    (a0 : FVec Ideal Cert.KernelIdeal.S8192x2048 .fp8e4m3) (a1 : FVec Ideal Cert.KernelIdeal.S8192x1 .f32)
    (a3 : FVec Ideal Cert.KernelIdeal.S8x2048x1536 .fp8e4m3) (a4 : FVec Ideal Cert.KernelIdeal.S8x1536 .f32)
    (r : Fin 8192) (j : Fin 1536) {g : ℕ} (hg : g < 9) (h1 : offs n g ≤ r.val) (h2 : r.val < offs n (g + 1)) :
    result a0 a1 gs a3 a4 (ix2 r j) = cell a0 a1 a3 a4 r g j := by
  have hr := r.isLt
  have hgs : (fun i : Fin 8 => gs (ix1 i)) = fun i => BitVec.ofNat 32 (n i.val) := funext fun i => hs.val i
  have e := refPay_at n hs.lt a0 a1 (fun g i => a3 (ix3 g (i 1) (i 2))) (fun g i => a4 (ix2 g (i 1))) r j
  unfold result
  rw [hgs]
  refine e.trans ?_
  have h1' : run n g ≤ r.val := by unfold offs at h1; split at h1 <;> omega
  unfold cell
  by_cases h8 : g < 8
  · have h2' : r.val < run n (g + 1) := by unfold offs at h2; split at h2 <;> omega
    obtain ⟨he, ht⟩ := expert_in n h8 h1' h2'
    have hf : (⟨expert n r.val, expert_lt n r.val⟩ : Fin 8) = ⟨g, h8⟩ := Fin.ext he
    rw [dif_pos h8, if_pos ht, hf]
    rfl
  · have hg8 : g = 8 := by omega
    subst hg8
    have ht : ¬ r.val < total n := by
      have := (runs n).2.2.2.2.2.2.2.2
      omega
    rw [dif_neg h8, if_neg ht, zero_mul, zero_mul]

section Kernel

open Cert.KernelIdeal Cert.KernelIdeal.Hand

variable (m : (ℓ : Loc nD τ sig) → Buf (Elt Ideal) ℓ) (ρ : Dev nD → PrngReg)

/-- The kernel: its output is the reference's array, its arguments as launched. -/
theorem kernel_run {n : ℕ → ℕ} (hs : Sizes n (m ((0 : Dev nD).tc.loc main_arg2) : IVec S8 32)) :
    θ_run (defs (F := Ideal)) (onTc (τ := τ) (main (F := Ideal))) ⟨m, fun _ => 0, ρ⟩ (fun r => ∀ c : Dev nD,
      r.2.mem ((c.tc : Thread nD τ).loc main_v55)
          = result (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, final_arg0 h.1 c, final_arg1 h.1 c, final_arg2 h.1 c, final_arg3 h.1 c, final_arg4 h.1 c⟩)
    (run_main m ρ (ok_of (tabs_of hs)) (checked_of (tabs_of hs)))
  have hc : c = 0 := dev_eq c
  subst hc
  refine funext fun (ix : S8192x1536.Idx) => ?_
  obtain ⟨g, hg, h1, h2⟩ := group_exists n (ix 0).isLt
  have hk := final_cell (ok_of (tabs_of hs)) (tabs_of hs) 0 h.1 ix g hg h1 h2
  refine hk.trans ((result_cell hs _ _ _ _ (ix 0) (ix 1) hg h1 h2).symm.trans ?_)
  exact congrArg (result _ _ _ _ _) (funext fun a => by fin_cases a <;> rfl)

end Kernel

section Reference

open Cert.ReferenceIdeal Cert.ReferenceIdeal.Hand

variable (m : (ℓ : Loc nD τ sig) → Buf (Elt Ideal) ℓ) (ρ : Dev nD → PrngReg)

/-- The reference: its output is that array, its arguments as launched. -/
theorem reference_run [Cert.ReferenceIdeal.Facts] :
    θ_run (defs (F := Ideal)) (onTc (τ := τ) (main (F := Ideal))) ⟨m, fun _ => 0, ρ⟩ (fun r => ∀ c : Dev nD,
      r.2.mem ((c.tc : Thread nD τ).loc main_v0)
          = result (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (final_value m c), (h c).2⟩) (Value.run_blocks m ρ)

end Reference

end Cert.Algebra

end

end
-- ==== Proof.lean ====
module

public import proofs.«01_k».proof.Defs
public import proofs.«01_k».proof.Proof.Run
public import proofs.«01_k».proof.Proof.KRun
public import proofs.«01_k».proof.Proof.Algebra
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_sizes_count

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_sizes_count.Gen.facts,
  fun m ρ h => Cert.Kernel.Hand.frame_of m ρ (Cert.Kernel.Hand.sizes_of_pre _ _ _ _ _ (h 0)),
  fun m ρ h => Cert.KernelIdeal.Hand.frame_of m ρ (Cert.KernelIdeal.Hand.sizes_of_pre _ _ _ _ _ (h 0)),
  fun m ρ _ => Cert.ReferenceIdeal.Gen.frame m ρ,
  fun m ρ _ => Cert.ReferenceIdeal.Gen.frame m ρ,
  trivial,
  fun m g m' g' hpre hag => by
    refine ⟨_, Cert.Algebra.kernel_run m g (Cert.KernelIdeal.Hand.sizes_of_pre _ _ _ _ _ (hpre 0)), ?_⟩
    refine (θ_run _ _ _).mono (fun r h c => ?_) (Cert.Algebra.reference_run m' g')
    obtain ⟨a0, a1, a2, a3, a4⟩ := hag c
    refine ⟨(h c).1.trans ?_, (h c).2⟩
    rw [a0, a1, a2, a3, a4]⟩

end Cert.Proof

end
